-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S1x2048x1024 : Shape := ⟨3, ![1, 2048, 1024]⟩
abbrev S1024x8 : Shape := ⟨2, ![1024, 8]⟩
abbrev S1024 : Shape := ⟨1, ![1024]⟩
abbrev S1024x2816 : Shape := ⟨2, ![1024, 2816]⟩
abbrev S2816 : Shape := ⟨1, ![2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816 : S_.BroadcastsInDim S2816 (![] : Fin 0 → Fin S2816.rank)
  reducesTo_S2816_S_d0 : S2816.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg6 : FVec F S2816 .f32) (main_arg7 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816 .f32 := Host.absf main_arg6
  let main_cst_6 : FVec F S_ .f32 := constant S_ .f32 0x7F800000#32
  let main_v20 : FVec F S2816 .f32 := broadcastInDim S2816 ![] bcast_S_S2816 main_cst_6
  let main_v21 : IVec S2816 1 := cmpf .olt main_v19 main_v20
  let main_c_7 : IVec S_ 1 := constantI S_ 1 1#1
  let main_v22 : IVec S_ 1 := (fun x v => Host.reduce IntOp.andi x v reducesTo_S2816_S_d0 h_S_) main_v21 main_c_7
  let main_v23 : IVec S_ 1 := andi main_v18 main_v22
  let main_v24 : FVec F S2816x1024 .f32 := Host.absf main_arg7
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S1x2048x1024 .f32) (main_arg1 : FVec F S1024x8 .f32) (main_arg2 : FVec F S1024 .f32) (main_arg3 : FVec F S1024x2816 .f32) (main_arg4 : FVec F S2816 .f32) (main_arg5 : FVec F S1024x2816 .f32) (main_arg6 : FVec F S2816 .f32) (main_arg7 : FVec F S2816x1024 .f32) (main_arg8 : FVec F S1024 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816 .f32 := Host.absf main_arg4
  let main_cst_2 : FVec F S_ .f32 := constant S_ .f32 0x7F800000#32
  let main_v10 : FVec F S2816 .f32 := broadcastInDim S2816 ![] bcast_S_S2816 main_cst_2
  let main_v11 : IVec S2816 1 := cmpf .olt main_v9 main_v10
  let main_c_3 : IVec S_ 1 := constantI S_ 1 1#1
  let main_v12 : IVec S_ 1 := (fun x v => Host.reduce IntOp.andi x v reducesTo_S2816_S_d0 h_S_) main_v11 main_c_3
  let main_v13 : IVec S_ 1 := andi main_v8 main_v12
  let main_v14 : FVec F S1024x2816 .f32 := Host.absf main_arg5
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg6 main_arg7 main_v13 main_v16
-- ==== Kernel.lean ====
abbrev S1x2048x1024 : Shape := ⟨3, ![1, 2048, 1024]⟩
abbrev S1024x8 : Shape := ⟨2, ![1024, 8]⟩
abbrev S1024 : Shape := ⟨1, ![1024]⟩
abbrev S1024x2816 : Shape := ⟨2, ![1024, 2816]⟩
abbrev S2816 : Shape := ⟨1, ![2816]⟩
abbrev S2816x1024 : Shape := ⟨2, ![2816, 1024]⟩
abbrev S2048x1024 : Shape := ⟨2, ![2048, 1024]⟩
abbrev S1x1024 : Shape := ⟨2, ![1, 1024]⟩
abbrev S1x2816 : Shape := ⟨2, ![1, 2816]⟩
abbrev S1x8 : Shape := ⟨2, ![1, 8]⟩
abbrev S1x1 : Shape := ⟨2, ![1, 1]⟩
abbrev S_ : Shape := ⟨0, ![]⟩
abbrev S2048 : Shape := ⟨1, ![2048]⟩
abbrev S2048x1 : Shape := ⟨2, ![2048, 1]⟩
abbrev S2048x8 : Shape := ⟨2, ![2048, 8]⟩
abbrev S8 : Shape := ⟨1, ![8]⟩
abbrev S1x1x8 : Shape := ⟨3, ![1, 1, 8]⟩
abbrev S1 : Shape := ⟨1, ![1]⟩
abbrev S1x1x1 : Shape := ⟨3, ![1, 1, 1]⟩
abbrev S2x1024x256 : Shape := ⟨3, ![2, 1024, 256]⟩
abbrev S2 : Shape := ⟨1, ![2]⟩
abbrev S2x1x256 : Shape := ⟨3, ![2, 1, 256]⟩
abbrev S2x256x1024 : Shape := ⟨3, ![2, 256, 1024]⟩
abbrev S1x1024x256 : Shape := ⟨3, ![1, 1024, 256]⟩
abbrev S1024x256 : Shape := ⟨2, ![1024, 256]⟩
abbrev S1x1x256 : Shape := ⟨3, ![1, 1, 256]⟩
abbrev S1x256 : Shape := ⟨2, ![1, 256]⟩
abbrev S1x256x1024 : Shape := ⟨3, ![1, 256, 1024]⟩
abbrev S256x1024 : Shape := ⟨2, ![256, 1024]⟩
abbrev S2048x256 : Shape := ⟨2, ![2048, 256]⟩

abbrev nBuf : Space → Nat
  | .hbm => 19
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S1024, .f32⟩
  | .hbm, ⟨3, _⟩ => ⟨S1024x2816, .f32⟩
  | .hbm, ⟨4, _⟩ => ⟨S2816, .f32⟩
  | .hbm, ⟨5, _⟩ => ⟨S1024x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S2048x1024, .f32⟩
  | .hbm, ⟨10, _⟩ => ⟨S1x1024, .f32⟩
  | .hbm, ⟨11, _⟩ => ⟨S1x2816, .f32⟩
  | .hbm, ⟨12, _⟩ => ⟨S1x2816, .f32⟩
  | .hbm, ⟨13, _⟩ => ⟨S1x1024, .f32⟩
  | .hbm, ⟨14, _⟩ => ⟨S2048x1024, .f32⟩
  | .hbm, ⟨15, _⟩ => ⟨S1x8, .f32⟩
  | .hbm, ⟨16, _⟩ => ⟨S1x1, .f32⟩
  | .hbm, ⟨17, _⟩ => ⟨S1x2048x1024, .f32⟩
  | .hbm, ⟨18, _⟩ => ⟨S_, .f32⟩
  | .local _ .vmem, ⟨0, _⟩ => ⟨S2048x1024, .f32⟩
  | .local _ .vmem, ⟨1, _⟩ => ⟨S1024x8, .f32⟩
  | .local _ .vmem, ⟨2, _⟩ => ⟨S1x1024, .f32⟩
  | .local _ .vmem, ⟨3, _⟩ => ⟨S1x1024, .f32⟩
  | .local _ .vmem, ⟨4, _⟩ => ⟨S2048x1024, .f32⟩
  | .local _ .vmem, ⟨5, _⟩ => ⟨S1x8, .f32⟩
  | .local _ .vmem, ⟨6, _⟩ => ⟨S1x1, .f32⟩
  | .local _ .vmem, ⟨7, _⟩ => ⟨S2x1024x256, .f32⟩
  | .local _ .vmem, ⟨8, _⟩ => ⟨S2x1x256, .f32⟩
  | .local _ .vmem, ⟨9, _⟩ => ⟨S2x1024x256, .f32⟩
  | .local _ .vmem, ⟨10, _⟩ => ⟨S2x1x256, .f32⟩
  | .local _ .vmem, ⟨11, _⟩ => ⟨S2x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5_0 : Ref sig .tc := ⟨.hbm, 14, rfl⟩
abbrev main_call0_v5_1 : Ref sig .tc := ⟨.hbm, 15, rfl⟩
abbrev main_call0_v5_2 : Ref sig .tc := ⟨.hbm, 16, rfl⟩
abbrev main_v0_0 : Ref sig .tc := ⟨.hbm, 17, rfl⟩
abbrev main_v0_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scoped0 : Ref sig .tc := ⟨.vmem, 7, rfl⟩
abbrev cc0_scoped2 : Ref sig .tc := ⟨.vmem, 8, rfl⟩
abbrev cc0_scoped4 : Ref sig .tc := ⟨.vmem, 9, rfl⟩
abbrev cc0_scoped6 : Ref sig .tc := ⟨.vmem, 10, rfl⟩
abbrev cc0_scoped8 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 : Fin 1 → Nat :=
  let c0_i32_44_r0 : BitVec 32 := 0#32
  let c2_i32_r0 : BitVec 32 := 2#32
  let v97_r0 : BitVec 32 := Scalar.remui c0_i32_44_r0 c2_i32_r0
  ![v97_r0.toNat]
def k0_off2 : Fin 3 → Nat :=
  let c0_i32_44_r0 : BitVec 32 := 0#32
  let c2_i32_r0 : BitVec 32 := 2#32
  let v97_r0 : BitVec 32 := Scalar.remui c0_i32_44_r0 c2_i32_r0
  let c0_i32_45_r0 : BitVec 32 := 0#32
  let c0_i32_46_r0 : BitVec 32 := 0#32
  ![v97_r0.toNat, 0, 0]
def k0_off3 : Fin 3 → Nat :=
  let c0_i32_51_r0 : BitVec 32 := 0#32
  let c2_i32_52_r0 : BitVec 32 := 2#32
  let v104_r0 : BitVec 32 := Scalar.remui c0_i32_51_r0 c2_i32_52_r0
  let c0_i32_53_r0 : BitVec 32 := 0#32
  let c0_i32_54_r0 : BitVec 32 := 0#32
  ![v104_r0.toNat, 0, 0]
def k0_off4 : Fin 3 → Nat :=
  let c0_i32_75_r0 : BitVec 32 := 0#32
  let c2_i32_76_r0 : BitVec 32 := 2#32
  let v125_r0 : BitVec 32 := Scalar.remui c0_i32_75_r0 c2_i32_76_r0
  let c0_i32_77_r0 : BitVec 32 := 0#32
  let c0_i32_78_r0 : BitVec 32 := 0#32
  ![v125_r0.toNat, 0, 0]
@[reducible] def k0_t1_loop : Scf.Loop 32 :=
  let c0_i32_89_r0 : BitVec 32 := 0#32
  let c11_i32_90_r0 : BitVec 32 := 11#32
  let v132_r0 : BitVec 32 := Scalar.addi c0_i32_89_r0 c11_i32_90_r0
  let c1_i32_91_r0 : BitVec 32 := 1#32
  ⟨c0_i32_89_r0, v132_r0, c1_i32_91_r0⟩
def k0_off5 (arg13_r0 : BitVec 32) : Fin 1 → Nat :=
  let c2_i32_226_r0 : BitVec 32 := 2#32
  let v385_r0 : BitVec 32 := Scalar.remui arg13_r0 c2_i32_226_r0
  ![v385_r0.toNat]
def k0_cond1 (k0_t1 : Fin k0_t1_loop.trips) (arg23_r0 : BitVec 32) : BitVec 1 :=
  let c0_i32_115_r0 : BitVec 32 := 0#32
  let v156_r0 : BitVec 32 := Scalar.addi arg23_r0 c0_i32_115_r0
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v172_r0 : BitVec 1 := Scalar.cmpi .ne v156_r0 v166_r0
  let c0_i32_89_r0 : BitVec 32 := 0#32
  let c1_i32_91_r0 : BitVec 32 := 1#32
  let arg12_r0 : BitVec 32 := Scf.iv c0_i32_89_r0 c1_i32_91_r0 k0_t1
  let c10_i32_131_r0 : BitVec 32 := 10#32
  let v173_r0 : BitVec 1 := Scalar.cmpi .sge arg12_r0 c10_i32_131_r0
  let true_132_r0 : BitVec 1 := 1#1
  let v174_r0 : BitVec 1 := Scalar.xori v173_r0 true_132_r0
  let v175_r0 : BitVec 1 := Scalar.andi v172_r0 v174_r0
  let true_133_r0 : BitVec 1 := 1#1
  let v176_r0 : BitVec 1 := Scalar.andi v175_r0 true_133_r0
  let v177_r0 : BitVec 32 := Scalar.extui v176_r0
  let c0_i32_134_r0 : BitVec 32 := 0#32
  let v178_r0 : BitVec 1 := Scalar.cmpi .ne v177_r0 c0_i32_134_r0
  v178_r0

def k0_off6 (arg13_r0 : BitVec 32) : Fin 3 → Nat :=
  let c2_i32_226_r0 : BitVec 32 := 2#32
  let v385_r0 : BitVec 32 := Scalar.remui arg13_r0 c2_i32_226_r0
  let c0_i32_227_r0 : BitVec 32 := 0#32
  let c0_i32_228_r0 : BitVec 32 := 0#32
  ![v385_r0.toNat, 0, 0]
def k0_off7 (arg23_r0 : BitVec 32) : Fin 2 → Nat :=
  let c0_i32_229_r0 : BitVec 32 := 0#32
  let c256_i32_r0 : BitVec 32 := 256#32
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v386_r0 : BitVec 32 := Scalar.muli c256_i32_r0 v166_r0
  ![0, v386_r0.toNat]
def k0_off8 (arg15_r0 : BitVec 32) : Fin 1 → Nat :=
  let c2_i32_226_r0 : BitVec 32 := 2#32
  let v385_r0 : BitVec 32 := Scalar.remui arg15_r0 c2_i32_226_r0
  ![v385_r0.toNat]
def k0_cond2 (k0_t1 : Fin k0_t1_loop.trips) (arg23_r0 : BitVec 32) : BitVec 1 :=
  let c0_i32_115_r0 : BitVec 32 := 0#32
  let v156_r0 : BitVec 32 := Scalar.addi arg23_r0 c0_i32_115_r0
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v182_r0 : BitVec 1 := Scalar.cmpi .ne v156_r0 v166_r0
  let c0_i32_89_r0 : BitVec 32 := 0#32
  let c1_i32_91_r0 : BitVec 32 := 1#32
  let arg12_r0 : BitVec 32 := Scf.iv c0_i32_89_r0 c1_i32_91_r0 k0_t1
  let c10_i32_137_r0 : BitVec 32 := 10#32
  let v183_r0 : BitVec 1 := Scalar.cmpi .sge arg12_r0 c10_i32_137_r0
  let true_138_r0 : BitVec 1 := 1#1
  let v184_r0 : BitVec 1 := Scalar.xori v183_r0 true_138_r0
  let v185_r0 : BitVec 1 := Scalar.andi v182_r0 v184_r0
  let true_139_r0 : BitVec 1 := 1#1
  let v186_r0 : BitVec 1 := Scalar.andi v185_r0 true_139_r0
  let v187_r0 : BitVec 32 := Scalar.extui v186_r0
  let c0_i32_140_r0 : BitVec 32 := 0#32
  let v188_r0 : BitVec 1 := Scalar.cmpi .ne v187_r0 c0_i32_140_r0
  v188_r0

def k0_off9 (arg15_r0 : BitVec 32) : Fin 3 → Nat :=
  let c2_i32_226_r0 : BitVec 32 := 2#32
  let v385_r0 : BitVec 32 := Scalar.remui arg15_r0 c2_i32_226_r0
  let c0_i32_227_r0 : BitVec 32 := 0#32
  let c0_i32_228_r0 : BitVec 32 := 0#32
  ![v385_r0.toNat, 0, 0]
def k0_off10 (arg23_r0 : BitVec 32) : Fin 2 → Nat :=
  let c0_i32_229_r0 : BitVec 32 := 0#32
  let c256_i32_r0 : BitVec 32 := 256#32
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v386_r0 : BitVec 32 := Scalar.muli c256_i32_r0 v166_r0
  ![0, v386_r0.toNat]
def k0_off11 (arg17_r0 : BitVec 32) : Fin 1 → Nat :=
  let c2_i32_226_r0 : BitVec 32 := 2#32
  let v385_r0 : BitVec 32 := Scalar.remui arg17_r0 c2_i32_226_r0
  ![v385_r0.toNat]
def k0_cond3 (k0_t1 : Fin k0_t1_loop.trips) (arg23_r0 : BitVec 32) : BitVec 1 :=
  let c0_i32_115_r0 : BitVec 32 := 0#32
  let v156_r0 : BitVec 32 := Scalar.addi arg23_r0 c0_i32_115_r0
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v192_r0 : BitVec 1 := Scalar.cmpi .ne v156_r0 v166_r0
  let c0_i32_89_r0 : BitVec 32 := 0#32
  let c1_i32_91_r0 : BitVec 32 := 1#32
  let arg12_r0 : BitVec 32 := Scf.iv c0_i32_89_r0 c1_i32_91_r0 k0_t1
  let c10_i32_143_r0 : BitVec 32 := 10#32
  let v193_r0 : BitVec 1 := Scalar.cmpi .sge arg12_r0 c10_i32_143_r0
  let true_144_r0 : BitVec 1 := 1#1
  let v194_r0 : BitVec 1 := Scalar.xori v193_r0 true_144_r0
  let v195_r0 : BitVec 1 := Scalar.andi v192_r0 v194_r0
  let true_145_r0 : BitVec 1 := 1#1
  let v196_r0 : BitVec 1 := Scalar.andi v195_r0 true_145_r0
  let v197_r0 : BitVec 32 := Scalar.extui v196_r0
  let c0_i32_146_r0 : BitVec 32 := 0#32
  let v198_r0 : BitVec 1 := Scalar.cmpi .ne v197_r0 c0_i32_146_r0
  v198_r0

def k0_off12 (arg17_r0 : BitVec 32) : Fin 3 → Nat :=
  let c2_i32_226_r0 : BitVec 32 := 2#32
  let v385_r0 : BitVec 32 := Scalar.remui arg17_r0 c2_i32_226_r0
  let c0_i32_227_r0 : BitVec 32 := 0#32
  let c0_i32_228_r0 : BitVec 32 := 0#32
  ![v385_r0.toNat, 0, 0]
def k0_off13 (arg23_r0 : BitVec 32) : Fin 2 → Nat :=
  let c0_i32_229_r0 : BitVec 32 := 0#32
  let c256_i32_r0 : BitVec 32 := 256#32
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v386_r0 : BitVec 32 := Scalar.muli c256_i32_r0 v166_r0
  ![0, v386_r0.toNat]
def k0_off14 (arg19_r0 : BitVec 32) : Fin 1 → Nat :=
  let c2_i32_226_r0 : BitVec 32 := 2#32
  let v385_r0 : BitVec 32 := Scalar.remui arg19_r0 c2_i32_226_r0
  ![v385_r0.toNat]
def k0_cond4 (k0_t1 : Fin k0_t1_loop.trips) (arg23_r0 : BitVec 32) : BitVec 1 :=
  let c0_i32_115_r0 : BitVec 32 := 0#32
  let v156_r0 : BitVec 32 := Scalar.addi arg23_r0 c0_i32_115_r0
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v202_r0 : BitVec 1 := Scalar.cmpi .ne v156_r0 v166_r0
  let c0_i32_89_r0 : BitVec 32 := 0#32
  let c1_i32_91_r0 : BitVec 32 := 1#32
  let arg12_r0 : BitVec 32 := Scf.iv c0_i32_89_r0 c1_i32_91_r0 k0_t1
  let c10_i32_149_r0 : BitVec 32 := 10#32
  let v203_r0 : BitVec 1 := Scalar.cmpi .sge arg12_r0 c10_i32_149_r0
  let true_150_r0 : BitVec 1 := 1#1
  let v204_r0 : BitVec 1 := Scalar.xori v203_r0 true_150_r0
  let v205_r0 : BitVec 1 := Scalar.andi v202_r0 v204_r0
  let true_151_r0 : BitVec 1 := 1#1
  let v206_r0 : BitVec 1 := Scalar.andi v205_r0 true_151_r0
  let v207_r0 : BitVec 32 := Scalar.extui v206_r0
  let c0_i32_152_r0 : BitVec 32 := 0#32
  let v208_r0 : BitVec 1 := Scalar.cmpi .ne v207_r0 c0_i32_152_r0
  v208_r0

def k0_off15 (arg19_r0 : BitVec 32) : Fin 3 → Nat :=
  let c2_i32_226_r0 : BitVec 32 := 2#32
  let v385_r0 : BitVec 32 := Scalar.remui arg19_r0 c2_i32_226_r0
  let c0_i32_227_r0 : BitVec 32 := 0#32
  let c0_i32_228_r0 : BitVec 32 := 0#32
  ![v385_r0.toNat, 0, 0]
def k0_off16 (arg23_r0 : BitVec 32) : Fin 2 → Nat :=
  let c0_i32_229_r0 : BitVec 32 := 0#32
  let c256_i32_r0 : BitVec 32 := 256#32
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v386_r0 : BitVec 32 := Scalar.muli c256_i32_r0 v166_r0
  ![0, v386_r0.toNat]
def k0_off17 (arg21_r0 : BitVec 32) : Fin 1 → Nat :=
  let c2_i32_226_r0 : BitVec 32 := 2#32
  let v385_r0 : BitVec 32 := Scalar.remui arg21_r0 c2_i32_226_r0
  ![v385_r0.toNat]
def k0_cond5 (k0_t1 : Fin k0_t1_loop.trips) (arg23_r0 : BitVec 32) : BitVec 1 :=
  let c0_i32_115_r0 : BitVec 32 := 0#32
  let v156_r0 : BitVec 32 := Scalar.addi arg23_r0 c0_i32_115_r0
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v212_r0 : BitVec 1 := Scalar.cmpi .ne v156_r0 v166_r0
  let c0_i32_89_r0 : BitVec 32 := 0#32
  let c1_i32_91_r0 : BitVec 32 := 1#32
  let arg12_r0 : BitVec 32 := Scf.iv c0_i32_89_r0 c1_i32_91_r0 k0_t1
  let c10_i32_155_r0 : BitVec 32 := 10#32
  let v213_r0 : BitVec 1 := Scalar.cmpi .sge arg12_r0 c10_i32_155_r0
  let true_156_r0 : BitVec 1 := 1#1
  let v214_r0 : BitVec 1 := Scalar.xori v213_r0 true_156_r0
  let v215_r0 : BitVec 1 := Scalar.andi v212_r0 v214_r0
  let true_157_r0 : BitVec 1 := 1#1
  let v216_r0 : BitVec 1 := Scalar.andi v215_r0 true_157_r0
  let v217_r0 : BitVec 32 := Scalar.extui v216_r0
  let c0_i32_158_r0 : BitVec 32 := 0#32
  let v218_r0 : BitVec 1 := Scalar.cmpi .ne v217_r0 c0_i32_158_r0
  v218_r0

def k0_off18 (arg21_r0 : BitVec 32) : Fin 3 → Nat :=
  let c2_i32_226_r0 : BitVec 32 := 2#32
  let v385_r0 : BitVec 32 := Scalar.remui arg21_r0 c2_i32_226_r0
  let c0_i32_227_r0 : BitVec 32 := 0#32
  let c0_i32_228_r0 : BitVec 32 := 0#32
  ![v385_r0.toNat, 0, 0]
def k0_off19 (arg23_r0 : BitVec 32) : Fin 2 → Nat :=
  let c256_i32_r0 : BitVec 32 := 256#32
  let true_122_r0 : BitVec 1 := 1#1
  let c1_i32_121_r0 : BitVec 32 := 1#32
  let v162_r0 : BitVec 32 := Scalar.addi arg23_r0 c1_i32_121_r0
  let v163_r0 : BitVec 32 := Scalar.select true_122_r0 v162_r0 arg23_r0
  let c11_i32_123_r0 : BitVec 32 := 11#32
  let v164_r0 : BitVec 1 := Scalar.cmpi .eq v163_r0 c11_i32_123_r0
  let c0_i32_124_r0 : BitVec 32 := 0#32
  let v165_r0 : BitVec 32 := Scalar.select v164_r0 c0_i32_124_r0 v163_r0
  let c0_i32_125_r0 : BitVec 32 := 0#32
  let v166_r0 : BitVec 32 := Scalar.addi v165_r0 c0_i32_125_r0
  let v386_r0 : BitVec 32 := Scalar.muli c256_i32_r0 v166_r0
  let c0_i32_229_r0 : BitVec 32 := 0#32
  ![v386_r0.toNat, 0]
def k0_off20 (arg14_r0 : BitVec 32) : Fin 1 → Nat :=
  let c2_i32_226_r0 : BitVec 32 := 2#32
  let v386_r0 : BitVec 32 := Scalar.remui arg14_r0 c2_i32_226_r0
  ![v386_r0.toNat]
def k0_cond6 (k0_t1 : Fin k0_t1_loop.trips) (arg23_r0 : BitVec 32) : BitVec 1 :=
  let c0_i32_115_r0 : BitVec 32 := 0#32
  let v156_r0 : BitVec 32 := Scalar.addi arg23_r0 c0_i32_115_r0
  let true_117_r0 : BitVec 1 := 1#1
  let c1_i32_116_r0 : BitVec 32 := 1#32
  let v157_r0 : BitVec 32 := Scalar.subi arg23_r0 c1_i32_116_r0
  let v158_r0 : BitVec 32 := Scalar.select true_117_r0 v157_r0 arg23_r0
  let c_m1_i32_118_r0 : BitVec 32 := 4294967295#32
  let v159_r0 : BitVec 1 := Scalar.cmpi .eq v158_r0 c_m1_i32_118_r0
  let c10_i32_119_r0 : BitVec 32 := 10#32
  let v160_r0 : BitVec 32 := Scalar.select v159_r0 c10_i32_119_r0 v158_r0
  let c0_i32_120_r0 : BitVec 32 := 0#32
  let v161_r0 : BitVec 32 := Scalar.addi v160_r0 c0_i32_120_r0
  let v222_r0 : BitVec 1 := Scalar.cmpi .ne v156_r0 v161_r0
  let c0_i32_89_r0 : BitVec 32 := 0#32
  let c1_i32_91_r0 : BitVec 32 := 1#32
  let arg12_r0 : BitVec 32 := Scf.iv c0_i32_89_r0 c1_i32_91_r0 k0_t1
  let c0_i32_113_r0 : BitVec 32 := 0#32
  let v154_r0 : BitVec 1 := Scalar.cmpi .eq arg12_r0 c0_i32_113_r0
  let v223_r0 : BitVec 1 := Scalar.ori v222_r0 v154_r0
  let c0_i32_161_r0 : BitVec 32 := 0#32
  let v224_r0 : BitVec 1 := Scalar.cmpi .sge arg12_r0 c0_i32_161_r0
  let v225_r0 : BitVec 1 := Scalar.andi v223_r0 v224_r0
  let v226_r0 : BitVec 32 := Scalar.extui v225_r0
  let c0_i32_162_r0 : BitVec 32 := 0#32
  let v227_r0 : BitVec 1 := Scalar.cmpi .ne v226_r0 c0_i32_162_r0
  v227_r0

def k0_off21 (arg14_r0 : BitVec 32) : Fin 3 → Nat :=
  let c2_i32_226_r0 : BitVec 32 := 2#32
  let v386_r0 : BitVec 32 := Scalar.remui arg14_r0 c2_i32_226_r0
  let c0_i32_227_r0 : BitVec 32 := 0#32
  let c0_i32_228_r0 : BitVec 32 := 0#32
  ![v386_r0.toNat, 0, 0]
def k0_off22 (arg23_r0 : BitVec 32) : Fin 2 → Nat :=
  let c0_i32_229_r0 : BitVec 32 := 0#32
  let c256_i32_r0 : BitVec 32 := 256#32
  let c0_i32_115_r0 : BitVec 32 := 0#32
  let v156_r0 : BitVec 32 := Scalar.addi arg23_r0 c0_i32_115_r0
  let v385_r0 : BitVec 32 := Scalar.muli c256_i32_r0 v156_r0
  ![0, v385_r0.toNat]
def k0_off23 (arg16_r0 : BitVec 32) : Fin 1 → Nat :=
  let c2_i32_226_r0 : BitVec 32 := 2#32
  let v386_r0 : BitVec 32 := Scalar.remui arg16_r0 c2_i32_226_r0
  ![v386_r0.toNat]
def k0_cond7 (k0_t1 : Fin k0_t1_loop.trips) (arg23_r0 : BitVec 32) : BitVec 1 :=
  let c0_i32_115_r0 : BitVec 32 := 0#32
  let v156_r0 : BitVec 32 := Scalar.addi arg23_r0 c0_i32_115_r0
  let true_117_r0 : BitVec 1 := 1#1
  let c1_i32_116_r0 : BitVec 32 := 1#32
  let v157_r0 : BitVec 32 := Scalar.subi arg23_r0 c1_i32_116_r0
  let v158_r0 : BitVec 32 := Scalar.select true_117_r0 v157_r0 arg23_r0
  let c_m1_i32_118_r0 : BitVec 32 := 4294967295#32
  let v159_r0 : BitVec 1 := Scalar.cmpi .eq v158_r0 c_m1_i32_118_r0
  let c10_i32_119_r0 : BitVec 32 := 10#32
  let v160_r0 : BitVec 32 := Scalar.select v159_r0 c10_i32_119_r0 v158_r0
  let c0_i32_120_r0 : BitVec 32 := 0#32
  let v161_r0 : BitVec 32 := Scalar.addi v160_r0 c0_i32_120_r0
  let v228_r0 : BitVec 1 := Scalar.cmpi .ne v156_r0 v161_r0
  let c0_i32_89_r0 : BitVec 32 := 0#32
  let c1_i32_91_r0 : BitVec 32 := 1#32
  let arg12_r0 : BitVec 32 := Scf.iv c0_i32_89_r0 c1_i32_91_r0 k0_t1
  let c0_i32_113_r0 : BitVec 32 := 0#32
  let v154_r0 : BitVec 1 := Scalar.cmpi .eq arg12_r0 c0_i32_113_r0
  let v229_r0 : BitVec 1 := Scalar.ori v228_r0 v154_r0
  let c0_i32_163_r0 : BitVec 32 := 0#32
  let v230_r0 : BitVec 1 := Scalar.cmpi .sge arg12_r0 c0_i32_163_r0
  let v231_r0 : BitVec 1 := Scalar.andi v229_r0 v230_r0
  let v232_r0 : BitVec 32 := Scalar.extui v231_r0
  let c0_i32_164_r0 : BitVec 32 := 0#32
  let v233_r0 : BitVec 1 := Scalar.cmpi .ne v232_r0 c0_i32_164_r0
  v233_r0

def k0_off24 (arg16_r0 : BitVec 32) : Fin 3 → Nat :=
  let c2_i32_226_r0 : BitVec 32 := 2#32
  let v386_r0 : BitVec 32 := Scalar.remui arg16_r0 c2_i32_226_r0
  let c0_i32_227_r0 : BitVec 32 := 0#32
  let c0_i32_228_r0 : BitVec 32 := 0#32
  ![v386_r0.toNat, 0, 0]
def k0_off25 (arg23_r0 : BitVec 32) : Fin 2 → Nat :=
  let c0_i32_229_r0 : BitVec 32 := 0#32
  let c256_i32_r0 : BitVec 32 := 256#32
  let c0_i32_115_r0 : BitVec 32 := 0#32
  let v156_r0 : BitVec 32 := Scalar.addi arg23_r0 c0_i32_115_r0
  let v385_r0 : BitVec 32 := Scalar.muli c256_i32_r0 v156_r0
  ![0, v385_r0.toNat]
def k0_off26 (arg18_r0 : BitVec 32) : Fin 1 → Nat :=
  let c2_i32_226_r0 : BitVec 32 := 2#32
  let v386_r0 : BitVec 32 := Scalar.remui arg18_r0 c2_i32_226_r0
  ![v386_r0.toNat]
def k0_cond8 (k0_t1 : Fin k0_t1_loop.trips) (arg23_r0 : BitVec 32) : BitVec 1 :=
  let c0_i32_115_r0 : BitVec 32 := 0#32
  let v156_r0 : BitVec 32 := Scalar.addi arg23_r0 c0_i32_115_r0
  let true_117_r0 : BitVec 1 := 1#1
  let c1_i32_116_r0 : BitVec 32 := 1#32
  let v157_r0 : BitVec 32 := Scalar.subi arg23_r0 c1_i32_116_r0
  let v158_r0 : BitVec 32 := Scalar.select true_117_r0 v157_r0 arg23_r0
  let c_m1_i32_118_r0 : BitVec 32 := 4294967295#32
  let v159_r0 : BitVec 1 := Scalar.cmpi .eq v158_r0 c_m1_i32_118_r0
  let c10_i32_119_r0 : BitVec 32 := 10#32
  let v160_r0 : BitVec 32 := Scalar.select v159_r0 c10_i32_119_r0 v158_r0
  let c0_i32_120_r0 : BitVec 32 := 0#32
  let v161_r0 : BitVec 32 := Scalar.addi v160_r0 c0_i32_120_r0
  let v234_r0 : BitVec 1 := Scalar.cmpi .ne v156_r0 v161_r0
  let c0_i32_89_r0 : BitVec 32 := 0#32
  let c1_i32_91_r0 : BitVec 32 := 1#32
  let arg12_r0 : BitVec 32 := Scf.iv c0_i32_89_r0 c1_i32_91_r0 k0_t1
  let c0_i32_113_r0 : BitVec 32 := 0#32
  let v154_r0 : BitVec 1 := Scalar.cmpi .eq arg12_r0 c0_i32_113_r0
  let v235_r0 : BitVec 1 := Scalar.ori v234_r0 v154_r0
  let c0_i32_165_r0 : BitVec 32 := 0#32
  let v236_r0 : BitVec 1 := Scalar.cmpi .sge arg12_r0 c0_i32_165_r0
  let v237_r0 : BitVec 1 := Scalar.andi v235_r0 v236_r0
  let v238_r0 : BitVec 32 := Scalar.extui v237_r0
  let c0_i32_166_r0 : BitVec 32 := 0#32
  let v239_r0 : BitVec 1 := Scalar.cmpi .ne v238_r0 c0_i32_166_r0
  v239_r0

def k0_off27 (arg18_r0 : BitVec 32) : Fin 3 → Nat :=
  let c2_i32_226_r0 : BitVec 32 := 2#32
  let v386_r0 : BitVec 32 := Scalar.remui arg18_r0 c2_i32_226_r0
  let c0_i32_227_r0 : BitVec 32 := 0#32
  let c0_i32_228_r0 : BitVec 32 := 0#32
  ![v386_r0.toNat, 0, 0]
def k0_off28 (arg23_r0 : BitVec 32) : Fin 2 → Nat :=
  let c0_i32_229_r0 : BitVec 32 := 0#32
  let c256_i32_r0 : BitVec 32 := 256#32
  let c0_i32_115_r0 : BitVec 32 := 0#32
  let v156_r0 : BitVec 32 := Scalar.addi arg23_r0 c0_i32_115_r0
  let v385_r0 : BitVec 32 := Scalar.muli c256_i32_r0 v156_r0
  ![0, v385_r0.toNat]
def k0_off29 (arg20_r0 : BitVec 32) : Fin 1 → Nat :=
  let c2_i32_226_r0 : BitVec 32 := 2#32
  let v386_r0 : BitVec 32 := Scalar.remui arg20_r0 c2_i32_226_r0
  ![v386_r0.toNat]
def k0_cond9 (k0_t1 : Fin k0_t1_loop.trips) (arg23_r0 : BitVec 32) : BitVec 1 :=
  let c0_i32_115_r0 : BitVec 32 := 0#32
  let v156_r0 : BitVec 32 := Scalar.addi arg23_r0 c0_i32_115_r0
  let true_117_r0 : BitVec 1 := 1#1
  let c1_i32_116_r0 : BitVec 32 := 1#32
  let v157_r0 : BitVec 32 := Scalar.subi arg23_r0 c1_i32_116_r0
  let v158_r0 : BitVec 32 := Scalar.select true_117_r0 v157_r0 arg23_r0
  let c_m1_i32_118_r0 : BitVec 32 := 4294967295#32
  let v159_r0 : BitVec 1 := Scalar.cmpi .eq v158_r0 c_m1_i32_118_r0
  let c10_i32_119_r0 : BitVec 32 := 10#32
  let v160_r0 : BitVec 32 := Scalar.select v159_r0 c10_i32_119_r0 v158_r0
  let c0_i32_120_r0 : BitVec 32 := 0#32
  let v161_r0 : BitVec 32 := Scalar.addi v160_r0 c0_i32_120_r0
  let v240_r0 : BitVec 1 := Scalar.cmpi .ne v156_r0 v161_r0
  let c0_i32_89_r0 : BitVec 32 := 0#32
  let c1_i32_91_r0 : BitVec 32 := 1#32
  let arg12_r0 : BitVec 32 := Scf.iv c0_i32_89_r0 c1_i32_91_r0 k0_t1
  let c0_i32_113_r0 : BitVec 32 := 0#32
  let v154_r0 : BitVec 1 := Scalar.cmpi .eq arg12_r0 c0_i32_113_r0
  let v241_r0 : BitVec 1 := Scalar.ori v240_r0 v154_r0
  let c0_i32_167_r0 : BitVec 32 := 0#32
  let v242_r0 : BitVec 1 := Scalar.cmpi .sge arg12_r0 c0_i32_167_r0
  let v243_r0 : BitVec 1 := Scalar.andi v241_r0 v242_r0
  let v244_r0 : BitVec 32 := Scalar.extui v243_r0
  let c0_i32_168_r0 : BitVec 32 := 0#32
  let v245_r0 : BitVec 1 := Scalar.cmpi .ne v244_r0 c0_i32_168_r0
  v245_r0

def k0_off30 (arg20_r0 : BitVec 32) : Fin 3 → Nat :=
  let c2_i32_226_r0 : BitVec 32 := 2#32
  let v386_r0 : BitVec 32 := Scalar.remui arg20_r0 c2_i32_226_r0
  let c0_i32_227_r0 : BitVec 32 := 0#32
  let c0_i32_228_r0 : BitVec 32 := 0#32
  ![v386_r0.toNat, 0, 0]
def k0_off31 (arg23_r0 : BitVec 32) : Fin 2 → Nat :=
  let c0_i32_229_r0 : BitVec 32 := 0#32
  let c256_i32_r0 : BitVec 32 := 256#32
  let c0_i32_115_r0 : BitVec 32 := 0#32
  let v156_r0 : BitVec 32 := Scalar.addi arg23_r0 c0_i32_115_r0
  let v385_r0 : BitVec 32 := Scalar.muli c256_i32_r0 v156_r0
  ![0, v385_r0.toNat]
def k0_off32 (arg22_r0 : BitVec 32) : Fin 1 → Nat :=
  let c2_i32_226_r0 : BitVec 32 := 2#32
  let v386_r0 : BitVec 32 := Scalar.remui arg22_r0 c2_i32_226_r0
  ![v386_r0.toNat]
def k0_cond10 (k0_t1 : Fin k0_t1_loop.trips) (arg23_r0 : BitVec 32) : BitVec 1 :=
  let c0_i32_115_r0 : BitVec 32 := 0#32
  let v156_r0 : BitVec 32 := Scalar.addi arg23_r0 c0_i32_115_r0
  let true_117_r0 : BitVec 1 := 1#1
  let c1_i32_116_r0 : BitVec 32 := 1#32
  let v157_r0 : BitVec 32 := Scalar.subi arg23_r0 c1_i32_116_r0
  let v158_r0 : BitVec 32 := Scalar.select true_117_r0 v157_r0 arg23_r0
  let c_m1_i32_118_r0 : BitVec 32 := 4294967295#32
  let v159_r0 : BitVec 1 := Scalar.cmpi .eq v158_r0 c_m1_i32_118_r0
  let c10_i32_119_r0 : BitVec 32 := 10#32
  let v160_r0 : BitVec 32 := Scalar.select v159_r0 c10_i32_119_r0 v158_r0
  let c0_i32_120_r0 : BitVec 32 := 0#32
  let v161_r0 : BitVec 32 := Scalar.addi v160_r0 c0_i32_120_r0
  let v246_r0 : BitVec 1 := Scalar.cmpi .ne v156_r0 v161_r0
  let c0_i32_89_r0 : BitVec 32 := 0#32
  let c1_i32_91_r0 : BitVec 32 := 1#32
  let arg12_r0 : BitVec 32 := Scf.iv c0_i32_89_r0 c1_i32_91_r0 k0_t1
  let c0_i32_113_r0 : BitVec 32 := 0#32
  let v154_r0 : BitVec 1 := Scalar.cmpi .eq arg12_r0 c0_i32_113_r0
  let v247_r0 : BitVec 1 := Scalar.ori v246_r0 v154_r0
  let c0_i32_169_r0 : BitVec 32 := 0#32
  let v248_r0 : BitVec 1 := Scalar.cmpi .sge arg12_r0 c0_i32_169_r0
  let v249_r0 : BitVec 1 := Scalar.andi v247_r0 v248_r0
  let v250_r0 : BitVec 32 := Scalar.extui v249_r0
  let c0_i32_170_r0 : BitVec 32 := 0#32
  let v251_r0 : BitVec 1 := Scalar.cmpi .ne v250_r0 c0_i32_170_r0
  v251_r0

def k0_off33 (arg22_r0 : BitVec 32) : Fin 3 → Nat :=
  let c2_i32_226_r0 : BitVec 32 := 2#32
  let v386_r0 : BitVec 32 := Scalar.remui arg22_r0 c2_i32_226_r0
  let c0_i32_227_r0 : BitVec 32 := 0#32
  let c0_i32_228_r0 : BitVec 32 := 0#32
  ![v386_r0.toNat, 0, 0]
def k0_off34 (arg23_r0 : BitVec 32) : Fin 2 → Nat :=
  let c256_i32_r0 : BitVec 32 := 256#32
  let c0_i32_115_r0 : BitVec 32 := 0#32
  let v156_r0 : BitVec 32 := Scalar.addi arg23_r0 c0_i32_115_r0
  let v385_r0 : BitVec 32 := Scalar.muli c256_i32_r0 v156_r0
  let c0_i32_229_r0 : BitVec 32 := 0#32
  ![v385_r0.toNat, 0]

def k0_chk1 (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h1 : k0_cond1 k0_t1 arg23_r0 = 1#1), ∀ a, (k0_off5 arg13_r0) a + S1.size a ≤ S2.size a) ∧
  (∀ (k0_h1 : k0_cond1 k0_t1 arg23_r0 = 1#1), ∀ a, (k0_off6 arg13_r0) a + S1x1024x256.size a ≤ S2x1024x256.size a) ∧
  (∀ (k0_h1 : k0_cond1 k0_t1 arg23_r0 = 1#1), ∀ a, (k0_off7 arg23_r0) a + S1024x256.size a ≤ S1024x2816.size a) ∧
  (∀ (k0_h2 : k0_cond2 k0_t1 arg23_r0 = 1#1), ∀ a, (k0_off8 arg15_r0) a + S1.size a ≤ S2.size a) ∧
  (∀ (k0_h2 : k0_cond2 k0_t1 arg23_r0 = 1#1), ∀ a, (k0_off9 arg15_r0) a + S1x1x256.size a ≤ S2x1x256.size a) ∧
  (∀ (k0_h2 : k0_cond2 k0_t1 arg23_r0 = 1#1), ∀ a, (k0_off10 arg23_r0) a + S1x256.size a ≤ S1x2816.size a) ∧
  (∀ (k0_h3 : k0_cond3 k0_t1 arg23_r0 = 1#1), ∀ a, (k0_off11 arg17_r0) a + S1.size a ≤ S2.size a) ∧
  (∀ (k0_h3 : k0_cond3 k0_t1 arg23_r0 = 1#1), ∀ a, (k0_off12 arg17_r0) a + S1x1024x256.size a ≤ S2x1024x256.size a) ∧
  (∀ (k0_h3 : k0_cond3 k0_t1 arg23_r0 = 1#1), ∀ a, (k0_off13 arg23_r0) a + S1024x256.size a ≤ S1024x2816.size a) ∧
  (∀ (k0_h4 : k0_cond4 k0_t1 arg23_r0 = 1#1), ∀ a, (k0_off14 arg19_r0) a + S1.size a ≤ S2.size a) ∧
  (∀ (k0_h4 : k0_cond4 k0_t1 arg23_r0 = 1#1), ∀ a, (k0_off15 arg19_r0) a + S1x1x256.size a ≤ S2x1x256.size a) ∧
  (∀ (k0_h4 : k0_cond4 k0_t1 arg23_r0 = 1#1), ∀ a, (k0_off16 arg23_r0) a + S1x256.size a ≤ S1x2816.size a) ∧
  (∀ (k0_h5 : k0_cond5 k0_t1 arg23_r0 = 1#1), ∀ a, (k0_off17 arg21_r0) a + S1.size a ≤ S2.size a) ∧
  (∀ (k0_h5 : k0_cond5 k0_t1 arg23_r0 = 1#1), ∀ a, (k0_off18 arg21_r0) a + S1x256x1024.size a ≤ S2x256x1024.size a) ∧
  (∀ (k0_h5 : k0_cond5 k0_t1 arg23_r0 = 1#1), ∀ a, (k0_off19 arg23_r0) a + S256x1024.size a ≤ S2816x1024.size a) ∧
  (∀ (k0_h6 : k0_cond6 k0_t1 arg23_r0 = 1#1), ∀ a, (k0_off20 arg14_r0) a + S1.size a ≤ S2.size a) ∧
  (∀ (k0_h6 : k0_cond6 k0_t1 arg23_r0 = 1#1), ∀ a, (k0_off21 arg14_r0) a + S1x1024x256.size a ≤ S2x1024x256.size a) ∧
  (∀ (k0_h6 : k0_cond6 k0_t1 arg23_r0 = 1#1), ∀ a, (k0_off22 arg23_r0) a + S1024x256.size a ≤ S1024x2816.size a) ∧
  (∀ (k0_h7 : k0_cond7 k0_t1 arg23_r0 = 1#1), ∀ a, (k0_off23 arg16_r0) a + S1.size a ≤ S2.size a) ∧
  (∀ (k0_h7 : k0_cond7 k0_t1 arg23_r0 = 1#1), ∀ a, (k0_off24 arg16_r0) a + S1x1x256.size a ≤ S2x1x256.size a) ∧
  (∀ (k0_h7 : k0_cond7 k0_t1 arg23_r0 = 1#1), ∀ a, (k0_off25 arg23_r0) a + S1x256.size a ≤ S1x2816.size a) ∧
  (∀ (k0_h8 : k0_cond8 k0_t1 arg23_r0 = 1#1), ∀ a, (k0_off26 arg18_r0) a + S1.size a ≤ S2.size a) ∧
  (∀ (k0_h8 : k0_cond8 k0_t1 arg23_r0 = 1#1), ∀ a, (k0_off27 arg18_r0) a + S1x1024x256.size a ≤ S2x1024x256.size a) ∧
  (∀ (k0_h8 : k0_cond8 k0_t1 arg23_r0 = 1#1), ∀ a, (k0_off28 arg23_r0) a + S1024x256.size a ≤ S1024x2816.size a) ∧
  (∀ (k0_h9 : k0_cond9 k0_t1 arg23_r0 = 1#1), ∀ a, (k0_off29 arg20_r0) a + S1.size a ≤ S2.size a) ∧
  (∀ (k0_h9 : k0_cond9 k0_t1 arg23_r0 = 1#1), ∀ a, (k0_off30 arg20_r0) a + S1x1x256.size a ≤ S2x1x256.size a) ∧
  (∀ (k0_h9 : k0_cond9 k0_t1 arg23_r0 = 1#1), ∀ a, (k0_off31 arg23_r0) a + S1x256.size a ≤ S1x2816.size a) ∧
  (∀ (k0_h10 : k0_cond10 k0_t1 arg23_r0 = 1#1), ∀ a, (k0_off32 arg22_r0) a + S1.size a ≤ S2.size a) ∧
  (∀ (k0_h10 : k0_cond10 k0_t1 arg23_r0 = 1#1), ∀ a, (k0_off33 arg22_r0) a + S1x256x1024.size a ≤ S2x256x1024.size a) ∧
  (∀ (k0_h10 : k0_cond10 k0_t1 arg23_r0 = 1#1), ∀ a, (k0_off34 arg23_r0) a + S256x1024.size a ≤ S2816x1024.size a)
theorem k0_off5_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h1 : k0_cond1 k0_t1 arg23_r0 = 1#1), ∀ a, (k0_off5 arg13_r0) a + S1.size a ≤ S2.size a := fun k0_t1 arg13_r0 arg14_r0 arg15_r0 arg16_r0 arg17_r0 arg18_r0 arg19_r0 arg20_r0 arg21_r0 arg22_r0 arg23_r0 k0_hw1 k0_h1 => k0_hw1.1 k0_h1
theorem k0_off6_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h1 : k0_cond1 k0_t1 arg23_r0 = 1#1), ∀ a, (k0_off6 arg13_r0) a + S1x1024x256.size a ≤ S2x1024x256.size a := fun k0_t1 arg13_r0 arg14_r0 arg15_r0 arg16_r0 arg17_r0 arg18_r0 arg19_r0 arg20_r0 arg21_r0 arg22_r0 arg23_r0 k0_hw1 k0_h1 => k0_hw1.2.1 k0_h1
theorem k0_off7_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h1 : k0_cond1 k0_t1 arg23_r0 = 1#1), ∀ a, (k0_off7 arg23_r0) a + S1024x256.size a ≤ S1024x2816.size a := fun k0_t1 arg13_r0 arg14_r0 arg15_r0 arg16_r0 arg17_r0 arg18_r0 arg19_r0 arg20_r0 arg21_r0 arg22_r0 arg23_r0 k0_hw1 k0_h1 => k0_hw1.2.2.1 k0_h1
theorem k0_off8_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h2 : k0_cond2 k0_t1 arg23_r0 = 1#1), ∀ a, (k0_off8 arg15_r0) a + S1.size a ≤ S2.size a := fun k0_t1 arg13_r0 arg14_r0 arg15_r0 arg16_r0 arg17_r0 arg18_r0 arg19_r0 arg20_r0 arg21_r0 arg22_r0 arg23_r0 k0_hw1 k0_h2 => k0_hw1.2.2.2.1 k0_h2
theorem k0_off9_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h2 : k0_cond2 k0_t1 arg23_r0 = 1#1), ∀ a, (k0_off9 arg15_r0) a + S1x1x256.size a ≤ S2x1x256.size a := fun k0_t1 arg13_r0 arg14_r0 arg15_r0 arg16_r0 arg17_r0 arg18_r0 arg19_r0 arg20_r0 arg21_r0 arg22_r0 arg23_r0 k0_hw1 k0_h2 => k0_hw1.2.2.2.2.1 k0_h2
theorem k0_off10_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h2 : k0_cond2 k0_t1 arg23_r0 = 1#1), ∀ a, (k0_off10 arg23_r0) a + S1x256.size a ≤ S1x2816.size a := fun k0_t1 arg13_r0 arg14_r0 arg15_r0 arg16_r0 arg17_r0 arg18_r0 arg19_r0 arg20_r0 arg21_r0 arg22_r0 arg23_r0 k0_hw1 k0_h2 => k0_hw1.2.2.2.2.2.1 k0_h2
theorem k0_off11_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h3 : k0_cond3 k0_t1 arg23_r0 = 1#1), ∀ a, (k0_off11 arg17_r0) a + S1.size a ≤ S2.size a := fun k0_t1 arg13_r0 arg14_r0 arg15_r0 arg16_r0 arg17_r0 arg18_r0 arg19_r0 arg20_r0 arg21_r0 arg22_r0 arg23_r0 k0_hw1 k0_h3 => k0_hw1.2.2.2.2.2.2.1 k0_h3
theorem k0_off12_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h3 : k0_cond3 k0_t1 arg23_r0 = 1#1), ∀ a, (k0_off12 arg17_r0) a + S1x1024x256.size a ≤ S2x1024x256.size a := fun k0_t1 arg13_r0 arg14_r0 arg15_r0 arg16_r0 arg17_r0 arg18_r0 arg19_r0 arg20_r0 arg21_r0 arg22_r0 arg23_r0 k0_hw1 k0_h3 => k0_hw1.2.2.2.2.2.2.2.1 k0_h3
theorem k0_off13_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h3 : k0_cond3 k0_t1 arg23_r0 = 1#1), ∀ a, (k0_off13 arg23_r0) a + S1024x256.size a ≤ S1024x2816.size a := fun k0_t1 arg13_r0 arg14_r0 arg15_r0 arg16_r0 arg17_r0 arg18_r0 arg19_r0 arg20_r0 arg21_r0 arg22_r0 arg23_r0 k0_hw1 k0_h3 => k0_hw1.2.2.2.2.2.2.2.2.1 k0_h3
theorem k0_off14_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h4 : k0_cond4 k0_t1 arg23_r0 = 1#1), ∀ a, (k0_off14 arg19_r0) a + S1.size a ≤ S2.size a := fun k0_t1 arg13_r0 arg14_r0 arg15_r0 arg16_r0 arg17_r0 arg18_r0 arg19_r0 arg20_r0 arg21_r0 arg22_r0 arg23_r0 k0_hw1 k0_h4 => k0_hw1.2.2.2.2.2.2.2.2.2.1 k0_h4
theorem k0_off15_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h4 : k0_cond4 k0_t1 arg23_r0 = 1#1), ∀ a, (k0_off15 arg19_r0) a + S1x1x256.size a ≤ S2x1x256.size a := fun k0_t1 arg13_r0 arg14_r0 arg15_r0 arg16_r0 arg17_r0 arg18_r0 arg19_r0 arg20_r0 arg21_r0 arg22_r0 arg23_r0 k0_hw1 k0_h4 => k0_hw1.2.2.2.2.2.2.2.2.2.2.1 k0_h4
theorem k0_off16_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h4 : k0_cond4 k0_t1 arg23_r0 = 1#1), ∀ a, (k0_off16 arg23_r0) a + S1x256.size a ≤ S1x2816.size a := fun k0_t1 arg13_r0 arg14_r0 arg15_r0 arg16_r0 arg17_r0 arg18_r0 arg19_r0 arg20_r0 arg21_r0 arg22_r0 arg23_r0 k0_hw1 k0_h4 => k0_hw1.2.2.2.2.2.2.2.2.2.2.2.1 k0_h4
theorem k0_off17_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h5 : k0_cond5 k0_t1 arg23_r0 = 1#1), ∀ a, (k0_off17 arg21_r0) a + S1.size a ≤ S2.size a := fun k0_t1 arg13_r0 arg14_r0 arg15_r0 arg16_r0 arg17_r0 arg18_r0 arg19_r0 arg20_r0 arg21_r0 arg22_r0 arg23_r0 k0_hw1 k0_h5 => k0_hw1.2.2.2.2.2.2.2.2.2.2.2.2.1 k0_h5
theorem k0_off18_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h5 : k0_cond5 k0_t1 arg23_r0 = 1#1), ∀ a, (k0_off18 arg21_r0) a + S1x256x1024.size a ≤ S2x256x1024.size a := fun k0_t1 arg13_r0 arg14_r0 arg15_r0 arg16_r0 arg17_r0 arg18_r0 arg19_r0 arg20_r0 arg21_r0 arg22_r0 arg23_r0 k0_hw1 k0_h5 => k0_hw1.2.2.2.2.2.2.2.2.2.2.2.2.2.1 k0_h5
theorem k0_off19_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h5 : k0_cond5 k0_t1 arg23_r0 = 1#1), ∀ a, (k0_off19 arg23_r0) a + S256x1024.size a ≤ S2816x1024.size a := fun k0_t1 arg13_r0 arg14_r0 arg15_r0 arg16_r0 arg17_r0 arg18_r0 arg19_r0 arg20_r0 arg21_r0 arg22_r0 arg23_r0 k0_hw1 k0_h5 => k0_hw1.2.2.2.2.2.2.2.2.2.2.2.2.2.2.1 k0_h5
theorem k0_off20_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h6 : k0_cond6 k0_t1 arg23_r0 = 1#1), ∀ a, (k0_off20 arg14_r0) a + S1.size a ≤ S2.size a := fun k0_t1 arg13_r0 arg14_r0 arg15_r0 arg16_r0 arg17_r0 arg18_r0 arg19_r0 arg20_r0 arg21_r0 arg22_r0 arg23_r0 k0_hw1 k0_h6 => k0_hw1.2.2.2.2.2.2.2.2.2.2.2.2.2.2.2.1 k0_h6
theorem k0_off21_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h6 : k0_cond6 k0_t1 arg23_r0 = 1#1), ∀ a, (k0_off21 arg14_r0) a + S1x1024x256.size a ≤ S2x1024x256.size a := fun k0_t1 arg13_r0 arg14_r0 arg15_r0 arg16_r0 arg17_r0 arg18_r0 arg19_r0 arg20_r0 arg21_r0 arg22_r0 arg23_r0 k0_hw1 k0_h6 => k0_hw1.2.2.2.2.2.2.2.2.2.2.2.2.2.2.2.2.1 k0_h6
theorem k0_off22_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h6 : k0_cond6 k0_t1 arg23_r0 = 1#1), ∀ a, (k0_off22 arg23_r0) a + S1024x256.size a ≤ S1024x2816.size a := fun k0_t1 arg13_r0 arg14_r0 arg15_r0 arg16_r0 arg17_r0 arg18_r0 arg19_r0 arg20_r0 arg21_r0 arg22_r0 arg23_r0 k0_hw1 k0_h6 => k0_hw1.2.2.2.2.2.2.2.2.2.2.2.2.2.2.2.2.2.1 k0_h6
theorem k0_off23_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h7 : k0_cond7 k0_t1 arg23_r0 = 1#1), ∀ a, (k0_off23 arg16_r0) a + S1.size a ≤ S2.size a := fun k0_t1 arg13_r0 arg14_r0 arg15_r0 arg16_r0 arg17_r0 arg18_r0 arg19_r0 arg20_r0 arg21_r0 arg22_r0 arg23_r0 k0_hw1 k0_h7 => k0_hw1.2.2.2.2.2.2.2.2.2.2.2.2.2.2.2.2.2.2.1 k0_h7
theorem k0_off24_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h7 : k0_cond7 k0_t1 arg23_r0 = 1#1), ∀ a, (k0_off24 arg16_r0) a + S1x1x256.size a ≤ S2x1x256.size a := fun k0_t1 arg13_r0 arg14_r0 arg15_r0 arg16_r0 arg17_r0 arg18_r0 arg19_r0 arg20_r0 arg21_r0 arg22_r0 arg23_r0 k0_hw1 k0_h7 => k0_hw1.2.2.2.2.2.2.2.2.2.2.2.2.2.2.2.2.2.2.2.1 k0_h7
theorem k0_off25_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h7 : k0_cond7 k0_t1 arg23_r0 = 1#1), ∀ a, (k0_off25 arg23_r0) a + S1x256.size a ≤ S1x2816.size a := fun k0_t1 arg13_r0 arg14_r0 arg15_r0 arg16_r0 arg17_r0 arg18_r0 arg19_r0 arg20_r0 arg21_r0 arg22_r0 arg23_r0 k0_hw1 k0_h7 => k0_hw1.2.2.2.2.2.2.2.2.2.2.2.2.2.2.2.2.2.2.2.2.1 k0_h7
theorem k0_off26_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h8 : k0_cond8 k0_t1 arg23_r0 = 1#1), ∀ a, (k0_off26 arg18_r0) a + S1.size a ≤ S2.size a := fun k0_t1 arg13_r0 arg14_r0 arg15_r0 arg16_r0 arg17_r0 arg18_r0 arg19_r0 arg20_r0 arg21_r0 arg22_r0 arg23_r0 k0_hw1 k0_h8 => k0_hw1.2.2.2.2.2.2.2.2.2.2.2.2.2.2.2.2.2.2.2.2.2.1 k0_h8
theorem k0_off27_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h8 : k0_cond8 k0_t1 arg23_r0 = 1#1), ∀ a, (k0_off27 arg18_r0) a + S1x1024x256.size a ≤ S2x1024x256.size a := fun k0_t1 arg13_r0 arg14_r0 arg15_r0 arg16_r0 arg17_r0 arg18_r0 arg19_r0 arg20_r0 arg21_r0 arg22_r0 arg23_r0 k0_hw1 k0_h8 => k0_hw1.2.2.2.2.2.2.2.2.2.2.2.2.2.2.2.2.2.2.2.2.2.2.1 k0_h8
theorem k0_off28_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h8 : k0_cond8 k0_t1 arg23_r0 = 1#1), ∀ a, (k0_off28 arg23_r0) a + S1024x256.size a ≤ S1024x2816.size a := fun k0_t1 arg13_r0 arg14_r0 arg15_r0 arg16_r0 arg17_r0 arg18_r0 arg19_r0 arg20_r0 arg21_r0 arg22_r0 arg23_r0 k0_hw1 k0_h8 => k0_hw1.2.2.2.2.2.2.2.2.2.2.2.2.2.2.2.2.2.2.2.2.2.2.2.1 k0_h8
theorem k0_off29_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h9 : k0_cond9 k0_t1 arg23_r0 = 1#1), ∀ a, (k0_off29 arg20_r0) a + S1.size a ≤ S2.size a := fun k0_t1 arg13_r0 arg14_r0 arg15_r0 arg16_r0 arg17_r0 arg18_r0 arg19_r0 arg20_r0 arg21_r0 arg22_r0 arg23_r0 k0_hw1 k0_h9 => k0_hw1.2.2.2.2.2.2.2.2.2.2.2.2.2.2.2.2.2.2.2.2.2.2.2.2.1 k0_h9
theorem k0_off30_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h9 : k0_cond9 k0_t1 arg23_r0 = 1#1), ∀ a, (k0_off30 arg20_r0) a + S1x1x256.size a ≤ S2x1x256.size a := fun k0_t1 arg13_r0 arg14_r0 arg15_r0 arg16_r0 arg17_r0 arg18_r0 arg19_r0 arg20_r0 arg21_r0 arg22_r0 arg23_r0 k0_hw1 k0_h9 => k0_hw1.2.2.2.2.2.2.2.2.2.2.2.2.2.2.2.2.2.2.2.2.2.2.2.2.2.1 k0_h9
theorem k0_off31_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h9 : k0_cond9 k0_t1 arg23_r0 = 1#1), ∀ a, (k0_off31 arg23_r0) a + S1x256.size a ≤ S1x2816.size a := fun k0_t1 arg13_r0 arg14_r0 arg15_r0 arg16_r0 arg17_r0 arg18_r0 arg19_r0 arg20_r0 arg21_r0 arg22_r0 arg23_r0 k0_hw1 k0_h9 => k0_hw1.2.2.2.2.2.2.2.2.2.2.2.2.2.2.2.2.2.2.2.2.2.2.2.2.2.2.1 k0_h9
theorem k0_off32_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h10 : k0_cond10 k0_t1 arg23_r0 = 1#1), ∀ a, (k0_off32 arg22_r0) a + S1.size a ≤ S2.size a := fun k0_t1 arg13_r0 arg14_r0 arg15_r0 arg16_r0 arg17_r0 arg18_r0 arg19_r0 arg20_r0 arg21_r0 arg22_r0 arg23_r0 k0_hw1 k0_h10 => k0_hw1.2.2.2.2.2.2.2.2.2.2.2.2.2.2.2.2.2.2.2.2.2.2.2.2.2.2.2.1 k0_h10
theorem k0_off33_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h10 : k0_cond10 k0_t1 arg23_r0 = 1#1), ∀ a, (k0_off33 arg22_r0) a + S1x256x1024.size a ≤ S2x256x1024.size a := fun k0_t1 arg13_r0 arg14_r0 arg15_r0 arg16_r0 arg17_r0 arg18_r0 arg19_r0 arg20_r0 arg21_r0 arg22_r0 arg23_r0 k0_hw1 k0_h10 => k0_hw1.2.2.2.2.2.2.2.2.2.2.2.2.2.2.2.2.2.2.2.2.2.2.2.2.2.2.2.2.1 k0_h10
theorem k0_off34_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg13_r0 arg14_r0 arg15_r0 arg16_r0 arg17_r0 arg18_r0 arg19_r0 arg20_r0 arg21_r0 arg22_r0 arg23_r0), ∀ (k0_h10 : k0_cond10 k0_t1 arg23_r0 = 1#1), ∀ a, (k0_off34 arg23_r0) a + S256x1024.size a ≤ S2816x1024.size a := fun k0_t1 arg13_r0 arg14_r0 arg15_r0 arg16_r0 arg17_r0 arg18_r0 arg19_r0 arg20_r0 arg21_r0 arg22_r0 arg23_r0 k0_hw1 k0_h10 => k0_hw1.2.2.2.2.2.2.2.2.2.2.2.2.2.2.2.2.2.2.2.2.2.2.2.2.2.2.2.2.2 k0_h10

def k0_off35 (arg14_r0 : BitVec 32) : Fin 3 → Nat :=
  let c2_i32_171_r0 : BitVec 32 := 2#32
  let v252_r0 : BitVec 32 := Scalar.remui arg14_r0 c2_i32_171_r0
  let v257_r0 : Index := Scalar.indexCast v252_r0
  let c0_176_r0 : Index := 0#32
  let c0_177_r0 : Index := 0#32
  ![v257_r0.toNat, 0, 0]

def k0_chk2 (arg14_r0 : BitVec 32) : Prop :=
  (∀ a, (k0_off35 arg14_r0) a + S1x1024x256.size a ≤ S2x1024x256.size a)
theorem k0_off35_inb : ∀ (arg14_r0 : BitVec 32) (k0_hw2 : k0_chk2 arg14_r0), ∀ a, (k0_off35 arg14_r0) a + S1x1024x256.size a ≤ S2x1024x256.size a := fun arg14_r0 k0_hw2 => k0_hw2

def k0_off36 (arg18_r0 : BitVec 32) : Fin 3 → Nat :=
  let c2_i32_173_r0 : BitVec 32 := 2#32
  let v254_r0 : BitVec 32 := Scalar.remui arg18_r0 c2_i32_173_r0
  let v262_r0 : Index := Scalar.indexCast v254_r0
  let c0_179_r0 : Index := 0#32
  let c0_180_r0 : Index := 0#32
  ![v262_r0.toNat, 0, 0]

def k0_chk3 (arg18_r0 : BitVec 32) : Prop :=
  (∀ a, (k0_off36 arg18_r0) a + S1x1024x256.size a ≤ S2x1024x256.size a)
theorem k0_off36_inb : ∀ (arg18_r0 : BitVec 32) (k0_hw3 : k0_chk3 arg18_r0), ∀ a, (k0_off36 arg18_r0) a + S1x1024x256.size a ≤ S2x1024x256.size a := fun arg18_r0 k0_hw3 => k0_hw3

def k0_off37 (arg16_r0 : BitVec 32) : Fin 3 → Nat :=
  let c2_i32_172_r0 : BitVec 32 := 2#32
  let v253_r0 : BitVec 32 := Scalar.remui arg16_r0 c2_i32_172_r0
  let v267_r0 : Index := Scalar.indexCast v253_r0
  let c0_182_r0 : Index := 0#32
  let c0_183_r0 : Index := 0#32
  ![v267_r0.toNat, 0, 0]

def k0_chk4 (arg16_r0 : BitVec 32) : Prop :=
  (∀ a, (k0_off37 arg16_r0) a + S1x1x256.size a ≤ S2x1x256.size a)
theorem k0_off37_inb : ∀ (arg16_r0 : BitVec 32) (k0_hw4 : k0_chk4 arg16_r0), ∀ a, (k0_off37 arg16_r0) a + S1x1x256.size a ≤ S2x1x256.size a := fun arg16_r0 k0_hw4 => k0_hw4

def k0_off38 (arg20_r0 : BitVec 32) : Fin 3 → Nat :=
  let c2_i32_174_r0 : BitVec 32 := 2#32
  let v255_r0 : BitVec 32 := Scalar.remui arg20_r0 c2_i32_174_r0
  let v270_r0 : Index := Scalar.indexCast v255_r0
  let c0_184_r0 : Index := 0#32
  let c0_185_r0 : Index := 0#32
  ![v270_r0.toNat, 0, 0]

def k0_chk5 (arg20_r0 : BitVec 32) : Prop :=
  (∀ a, (k0_off38 arg20_r0) a + S1x1x256.size a ≤ S2x1x256.size a)
theorem k0_off38_inb : ∀ (arg20_r0 : BitVec 32) (k0_hw5 : k0_chk5 arg20_r0), ∀ a, (k0_off38 arg20_r0) a + S1x1x256.size a ≤ S2x1x256.size a := fun arg20_r0 k0_hw5 => k0_hw5

def k0_off39 (arg22_r0 : BitVec 32) : Fin 3 → Nat :=
  let c2_i32_175_r0 : BitVec 32 := 2#32
  let v256_r0 : BitVec 32 := Scalar.remui arg22_r0 c2_i32_175_r0
  let v299_r0 : Index := Scalar.indexCast v256_r0
  let c0_188_r0 : Index := 0#32
  let c0_189_r0 : Index := 0#32
  ![v299_r0.toNat, 0, 0]

def k0_chk6 (arg22_r0 : BitVec 32) : Prop :=
  (∀ a, (k0_off39 arg22_r0) a + S1x256x1024.size a ≤ S2x256x1024.size a)
theorem k0_off39_inb : ∀ (arg22_r0 : BitVec 32) (k0_hw6 : k0_chk6 arg22_r0), ∀ a, (k0_off39 arg22_r0) a + S1x256x1024.size a ≤ S2x256x1024.size a := fun arg22_r0 k0_hw6 => k0_hw6

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1x2048x1024 : Shape := ⟨3, ![1, 2048, 1024]⟩
abbrev S1024x8 : Shape := ⟨2, ![1024, 8]⟩
abbrev S1024 : Shape := ⟨1, ![1024]⟩
abbrev S1024x2816 : Shape := ⟨2, ![1024, 2816]⟩
abbrev S2816 : Shape := ⟨1, ![2816]⟩
abbrev S2816x1024 : Shape := ⟨2, ![2816, 1024]⟩
abbrev S1x2048x8 : Shape := ⟨3, ![1, 2048, 8]⟩
abbrev S_ : Shape := ⟨0, ![]⟩
abbrev S1x2048 : Shape := ⟨2, ![1, 2048]⟩
abbrev S1x2048x1 : Shape := ⟨3, ![1, 2048, 1]⟩
abbrev S1x2048x2 : Shape := ⟨3, ![1, 2048, 2]⟩
abbrev S1x1x1024 : Shape := ⟨3, ![1, 1, 1024]⟩
abbrev S1x2048x2816 : Shape := ⟨3, ![1, 2048, 2816]⟩
abbrev S1x1x2816 : Shape := ⟨3, ![1, 1, 2816]⟩
abbrev S8 : Shape := ⟨1, ![8]⟩

abbrev nBuf : Space → Nat
  | .hbm => 127
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S1024, .f32⟩
  | .hbm, ⟨3, _⟩ => ⟨S1024x2816, .f32⟩
  | .hbm, ⟨4, _⟩ => ⟨S2816, .f32⟩
  | .hbm, ⟨5, _⟩ => ⟨S1024x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1x2048x8, .f32⟩
  | .hbm, ⟨10, _⟩ => ⟨S_, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048x1, .f32⟩
  | .hbm, ⟨16, _⟩ => ⟨S1x2048x8, .f32⟩
  | .hbm, ⟨17, _⟩ => ⟨S1x2048x8, .f32⟩
  | .hbm, ⟨18, _⟩ => ⟨S1x2048x8, .f32⟩
  | .hbm, ⟨19, _⟩ => ⟨S_, .f32⟩
  | .hbm, ⟨20, _⟩ => ⟨S1x2048, .f32⟩
  | .hbm, ⟨21, _⟩ => ⟨S1x2048x1, .f32⟩
  | .hbm, ⟨22, _⟩ => ⟨S1x2048x8, .f32⟩
  | .hbm, ⟨23, _⟩ => ⟨S1x2048x8, .f32⟩
  | .hbm, ⟨24, _⟩ => ⟨S1x2048x2, .f32⟩
  | .hbm, ⟨25, _⟩ => ⟨S1x2048x2, .i32⟩
  | .hbm, ⟨26, _⟩ => ⟨S_, .f32⟩
  | .hbm, ⟨27, _⟩ => ⟨S1x2048, .f32⟩
  | .hbm, ⟨28, _⟩ => ⟨S1x2048x1, .f32⟩
  | .hbm, ⟨29, _⟩ => ⟨S1x2048x2, .f32⟩
  | .hbm, ⟨30, _⟩ => ⟨S1x2048x2, .f32⟩
  | .hbm, ⟨31, _⟩ => ⟨S1x2048x1, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1x2048, .f32⟩
  | .hbm, ⟨37, _⟩ => ⟨S1x2048x1, .f32⟩
  | .hbm, ⟨38, _⟩ => ⟨S_, .f32⟩
  | .hbm, ⟨39, _⟩ => ⟨S1x2048x1, .f32⟩
  | .hbm, ⟨40, _⟩ => ⟨S1x2048x1, .f32⟩
  | .hbm, ⟨41, _⟩ => ⟨S_, .f32⟩
  | .hbm, ⟨42, _⟩ => ⟨S1x2048x1, .f32⟩
  | .hbm, ⟨43, _⟩ => ⟨S1x2048x1, .f32⟩
  | .hbm, ⟨44, _⟩ => ⟨S1x2048x1, .f32⟩
  | .hbm, ⟨45, _⟩ => ⟨S1x2048x1024, .f32⟩
  | .hbm, ⟨46, _⟩ => ⟨S1x2048x1024, .f32⟩
  | .hbm, ⟨47, _⟩ => ⟨S1x1x1024, .f32⟩
  | .hbm, ⟨48, _⟩ => ⟨S1x2048x1024, .f32⟩
  | .hbm, ⟨49, _⟩ => ⟨S1x2048x1024, .f32⟩
  | .hbm, ⟨50, _⟩ => ⟨S1x2048x2816, .f32⟩
  | .hbm, ⟨51, _⟩ => ⟨S1x1x2816, .f32⟩
  | .hbm, ⟨52, _⟩ => ⟨S1x2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S_, .f32⟩
  | .hbm, ⟨57, _⟩ => ⟨S1x2048x2816, .f32⟩
  | .hbm, ⟨58, _⟩ => ⟨S1x2048x2816, .f32⟩
  | .hbm, ⟨59, _⟩ => ⟨S_, .f32⟩
  | .hbm, ⟨60, _⟩ => ⟨S1x2048x2816, .f32⟩
  | .hbm, ⟨61, _⟩ => ⟨S1x2048x2816, .f32⟩
  | .hbm, ⟨62, _⟩ => ⟨S1x2048x2816, .f32⟩
  | .hbm, ⟨63, _⟩ => ⟨S1x2048x2816, .f32⟩
  | .hbm, ⟨64, _⟩ => ⟨S1x1x2816, .f32⟩
  | .hbm, ⟨65, _⟩ => ⟨S1x2048x2816, .f32⟩
  | .hbm, ⟨66, _⟩ => ⟨S1x2048x2816, .f32⟩
  | .hbm, ⟨67, _⟩ => ⟨S1x2048x2816, .f32⟩
  | .hbm, ⟨68, _⟩ => ⟨S1x2048x1024, .f32⟩
  | .hbm, ⟨69, _⟩ => ⟨S1x1x1024, .f32⟩
  | .hbm, ⟨70, _⟩ => ⟨S1x2048x1024, .f32⟩
  | .hbm, ⟨71, _⟩ => ⟨S1x2048x1024, .f32⟩
  | .hbm, ⟨72, _⟩ => ⟨S1x2048x1, .f32⟩
  | .hbm, ⟨73, _⟩ => ⟨S1x2048x1024, .f32⟩
  | .hbm, ⟨74, _⟩ => ⟨S1x2048x1024, .f32⟩
  | .hbm, ⟨75, _⟩ => ⟨S1x2048x1024, .f32⟩
  | .hbm, ⟨76, _⟩ => ⟨S_, .f32⟩
  | .hbm, ⟨77, _⟩ => ⟨S1x2048, .f32⟩
  | .hbm, ⟨78, _⟩ => ⟨S1x2048x1, .f32⟩
  | .hbm, ⟨79, _⟩ => ⟨S_, .f32⟩
  | .hbm, ⟨80, _⟩ => ⟨S1x2048x1, .f32⟩
  | .hbm, ⟨81, _⟩ => ⟨S1x2048x1, .f32⟩
  | .hbm, ⟨82, _⟩ => ⟨S_, .f32⟩
  | .hbm, ⟨83, _⟩ => ⟨S1x2048x1, .f32⟩
  | .hbm, ⟨84, _⟩ => ⟨S1x2048x1, .f32⟩
  | .hbm, ⟨85, _⟩ => ⟨S1x2048x1, .f32⟩
  | .hbm, ⟨86, _⟩ => ⟨S1x2048x1024, .f32⟩
  | .hbm, ⟨87, _⟩ => ⟨S1x2048x1024, .f32⟩
  | .hbm, ⟨88, _⟩ => ⟨S1x1x1024, .f32⟩
  | .hbm, ⟨89, _⟩ => ⟨S1x2048x1024, .f32⟩
  | .hbm, ⟨90, _⟩ => ⟨S1x2048x1024, .f32⟩
  | .hbm, ⟨91, _⟩ => ⟨S1x2048x2816, .f32⟩
  | .hbm, ⟨92, _⟩ => ⟨S1x1x2816, .f32⟩
  | .hbm, ⟨93, _⟩ => ⟨S1x2048x2816, .f32⟩
  | .hbm, ⟨94, _⟩ => ⟨S1x2048x2816, .f32⟩
  | .hbm, ⟨95, _⟩ => ⟨S1x2048x2816, .f32⟩
  | .hbm, ⟨96, _⟩ => ⟨S1x2048x2816, .f32⟩
  | .hbm, ⟨97, _⟩ => ⟨S_, .f32⟩
  | .hbm, ⟨98, _⟩ => ⟨S1x2048x2816, .f32⟩
  | .hbm, ⟨99, _⟩ => ⟨S1x2048x2816, .f32⟩
  | .hbm, ⟨100, _⟩ => ⟨S_, .f32⟩
  | .hbm, ⟨101, _⟩ => ⟨S1x2048x2816, .f32⟩
  | .hbm, ⟨102, _⟩ => ⟨S1x2048x2816, .f32⟩
  | .hbm, ⟨103, _⟩ => ⟨S1x2048x2816, .f32⟩
  | .hbm, ⟨104, _⟩ => ⟨S1x2048x2816, .f32⟩
  | .hbm, ⟨105, _⟩ => ⟨S1x1x2816, .f32⟩
  | .hbm, ⟨106, _⟩ => ⟨S1x2048x2816, .f32⟩
  | .hbm, ⟨107, _⟩ => ⟨S1x2048x2816, .f32⟩
  | .hbm, ⟨108, _⟩ => ⟨S1x2048x2816, .f32⟩
  | .hbm, ⟨109, _⟩ => ⟨S1x2048x1024, .f32⟩
  | .hbm, ⟨110, _⟩ => ⟨S1x1x1024, .f32⟩
  | .hbm, ⟨111, _⟩ => ⟨S1x2048x1024, .f32⟩
  | .hbm, ⟨112, _⟩ => ⟨S1x2048x1024, .f32⟩
  | .hbm, ⟨113, _⟩ => ⟨S1x2048x1024, .f32⟩
  | .hbm, ⟨114, _⟩ => ⟨S_, .f32⟩
  | .hbm, ⟨115, _⟩ => ⟨S8, .f32⟩
  | .hbm, ⟨116, _⟩ => ⟨S_, .f32⟩
  | .hbm, ⟨117, _⟩ => ⟨S8, .f32⟩
  | .hbm, ⟨118, _⟩ => ⟨S8, .f32⟩
  | .hbm, ⟨119, _⟩ => ⟨S_, .f32⟩
  | .hbm, ⟨120, _⟩ => ⟨S8, .f32⟩
  | .hbm, ⟨121, _⟩ => ⟨S8, .f32⟩
  | .hbm, ⟨122, _⟩ => ⟨S8, .f32⟩
  | .hbm, ⟨123, _⟩ => ⟨S8, .f32⟩
  | .hbm, ⟨124, _⟩ => ⟨S_, .f32⟩
  | .hbm, ⟨125, _⟩ => ⟨S_, .f32⟩
  | .hbm, ⟨126, _⟩ => ⟨S_, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_9 : Ref sig .tc := ⟨.hbm, 114, rfl⟩
abbrev main_v77 : Ref sig .tc := ⟨.hbm, 115, rfl⟩
abbrev main_cst_10 : Ref sig .tc := ⟨.hbm, 116, rfl⟩
abbrev main_v78 : Ref sig .tc := ⟨.hbm, 117, rfl⟩
abbrev main_v79 : Ref sig .tc := ⟨.hbm, 118, rfl⟩
abbrev main_cst_11 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_12 : Ref sig .tc := ⟨.hbm, 124, rfl⟩
abbrev main_v84 : Ref sig .tc := ⟨.hbm, 125, rfl⟩
abbrev main_v85 : Ref sig .tc := ⟨.hbm, 126, rfl⟩

abbrev nD : Nat := 1
abbrev τ : Topo := Topo.v7x

variable {F : FTy → Type} [FloatOps F]
-- ==== Proof.Names.lean ====
/-
  Names for the pieces the pipelined kernel moves: the slots of its five rings, their semaphores, and the blocks of
  the five operands left in HBM, with the words the loop carries read in closed form.

  `emit_pipeline` prints one loop of eleven trips. Before trip `k` every "next to copy in" word is `min (k + 1) 11`,
  every "in use" word is `k`, and the block index is `k` (back to 0 at the end). A slot is such a word modulo 2, a block
  starts at 256 times the block index. Each of these facts is a finite check over the eleven trips.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Ring
public import Idealize.ShloMosaic.Lib.Ring.Trips
public import Idealize.ShloMosaic.Lib.Tactic

@[expose] public section

noncomputable section

namespace Cert.Proof.Pipe

open Cert.KernelIdeal Cert.KernelIdeal.Gen
open Idealize.ShloMosaic
open Idealize.ShloMosaic.TcCoe Idealize.ShloMosaic.Tactic
open Idealize.SL.Sem

/-- The trips of the chunk loop. -/
abbrev Trip : Type := Fin k0_t1_loop.trips

/-- The word the loop carries for the number `n`. -/
def wd (n : ℕ) : BitVec 32 := BitVec.ofNat 32 n

/-! ## Offsets -/

abbrev semOff (s : Fin 2) : Fin 1 → Nat := ![s.val]
theorem semOff_inb (s : Fin 2) : ∀ a, semOff s a + S1.size a ≤ S2.size a := by revert s; decide
abbrev slotOff (s : Fin 2) : Fin 3 → Nat := ![s.val, 0, 0]
theorem slotOffW_inb (s : Fin 2) : ∀ a, slotOff s a + S1x1024x256.size a ≤ S2x1024x256.size a := by revert s; decide
theorem slotOffB_inb (s : Fin 2) : ∀ a, slotOff s a + S1x1x256.size a ≤ S2x1x256.size a := by revert s; decide
theorem slotOffO_inb (s : Fin 2) : ∀ a, slotOff s a + S1x256x1024.size a ≤ S2x256x1024.size a := by revert s; decide
/-- Columns `256 b …` of an operand. -/
abbrev colOff (b : Fin 11) : Fin 2 → Nat := ![0, 256 * b.val]
/-- Rows `256 b …` of an operand. -/
abbrev rowOff (b : Fin 11) : Fin 2 → Nat := ![256 * b.val, 0]
theorem colOffW_inb (b : Fin 11) : ∀ a, colOff b a + S1024x256.size a ≤ S1024x2816.size a := by revert b; decide
theorem colOffB_inb (b : Fin 11) : ∀ a, colOff b a + S1x256.size a ≤ S1x2816.size a := by revert b; decide
theorem rowOffO_inb (b : Fin 11) : ∀ a, rowOff b a + S256x1024.size a ≤ S2816x1024.size a := by revert b; decide

instance (s : Fin 2) : ClosedOff (slotOff s) := ⟨slotOff s, rfl⟩

/-! ## Slots, semaphores, blocks -/

/-- A ring's semaphore for slot `s`. -/
def csm (A : DmaSems sig S2) (s : Fin 2) : DmaSems sig S_ := (A.slice (Rect.unit (s := S2) (semOff s) S1.size (semOff_inb s))).squeeze S_ squeezes_S1_S_

/-- Slot `s` of a weight ring of 1024 × 256 blocks. -/
def slotW (B : Memref sig .tc .vmem S2x1024x256 .f32) (s : Fin 2) : Memref sig .tc .vmem S1024x256 .f32 :=
  (B.slice (Rect.unit (s := S2x1024x256) (slotOff s) S1x1024x256.size (slotOffW_inb s)) (fun _ => rfl)).squeeze S1024x256 squeezes_S1x1024x256_S1024x256
/-- Block `b` of the operand such a ring is filled from. -/
def blkW (A : Memref sig .tc .hbm S1024x2816 .f32) (b : Fin 11) : Memref sig .tc .hbm S1024x256 .f32 :=
  A.slice (Rect.unit (s := S1024x2816) (colOff b) S1024x256.size (colOffW_inb b)) (fun _ => rfl)

/-- Slot `s` of a bias ring. -/
def slotB (B : Memref sig .tc .vmem S2x1x256 .f32) (s : Fin 2) : Memref sig .tc .vmem S1x256 .f32 :=
  (B.slice (Rect.unit (s := S2x1x256) (slotOff s) S1x1x256.size (slotOffB_inb s)) (fun _ => rfl)).squeeze S1x256 squeezes_S1x1x256_S1x256
/-- Block `b` of the operand such a ring is filled from. -/
def blkB (A : Memref sig .tc .hbm S1x2816 .f32) (b : Fin 11) : Memref sig .tc .hbm S1x256 .f32 :=
  A.slice (Rect.unit (s := S1x2816) (colOff b) S1x256.size (colOffB_inb b)) (fun _ => rfl)

/-- Slot `s` of the ring of 256 × 1024 blocks. -/
def slotO (B : Memref sig .tc .vmem S2x256x1024 .f32) (s : Fin 2) : Memref sig .tc .vmem S256x1024 .f32 :=
  (B.slice (Rect.unit (s := S2x256x1024) (slotOff s) S1x256x1024.size (slotOffO_inb s)) (fun _ => rfl)).squeeze S256x1024 squeezes_S1x256x1024_S256x1024
/-- Block `b` of the operand such a ring is filled from. -/
def blkO (A : Memref sig .tc .hbm S2816x1024 .f32) (b : Fin 11) : Memref sig .tc .hbm S256x1024 .f32 :=
  A.slice (Rect.unit (s := S2816x1024) (rowOff b) S256x1024.size (rowOffO_inb b)) (fun _ => rfl)

theorem csm_congr (A : DmaSems sig S2) {off : Fin 1 → Nat} {s : Fin 2} (e : off = semOff s) (hh) :
    (A.slice (Rect.unit (s := S2) off S1.size hh)).squeeze S_ squeezes_S1_S_ = csm A s :=
  congrArg (fun A : DmaSems sig S1 => A.squeeze S_ squeezes_S1_S_) (SemArray.slice_unit_congr _ e _ _)
theorem slotW_congr (B : Memref sig .tc .vmem S2x1024x256 .f32) {off : Fin 3 → Nat} {s : Fin 2} (e : off = slotOff s) (hh hs) :
    (B.slice (Rect.unit (s := S2x1024x256) off S1x1024x256.size hh) hs).squeeze S1024x256 squeezes_S1x1024x256_S1024x256 = slotW B s :=
  congrArg (fun M : Memref sig .tc .vmem S1x1024x256 .f32 => M.squeeze S1024x256 squeezes_S1x1024x256_S1024x256) (Memref.slice_unit_congr _ e _ _ _ _)
theorem blkW_congr (A : Memref sig .tc .hbm S1024x2816 .f32) {off : Fin 2 → Nat} {b : Fin 11} (e : off = colOff b) (hh hs) :
    A.slice (Rect.unit (s := S1024x2816) off S1024x256.size hh) hs = blkW A b := Memref.slice_unit_congr _ e _ _ _ (fun _ => rfl)
theorem slotB_congr (B : Memref sig .tc .vmem S2x1x256 .f32) {off : Fin 3 → Nat} {s : Fin 2} (e : off = slotOff s) (hh hs) :
    (B.slice (Rect.unit (s := S2x1x256) off S1x1x256.size hh) hs).squeeze S1x256 squeezes_S1x1x256_S1x256 = slotB B s :=
  congrArg (fun M : Memref sig .tc .vmem S1x1x256 .f32 => M.squeeze S1x256 squeezes_S1x1x256_S1x256) (Memref.slice_unit_congr _ e _ _ _ _)
theorem blkB_congr (A : Memref sig .tc .hbm S1x2816 .f32) {off : Fin 2 → Nat} {b : Fin 11} (e : off = colOff b) (hh hs) :
    A.slice (Rect.unit (s := S1x2816) off S1x256.size hh) hs = blkB A b := Memref.slice_unit_congr _ e _ _ _ (fun _ => rfl)
theorem slotO_congr (B : Memref sig .tc .vmem S2x256x1024 .f32) {off : Fin 3 → Nat} {s : Fin 2} (e : off = slotOff s) (hh hs) :
    (B.slice (Rect.unit (s := S2x256x1024) off S1x256x1024.size hh) hs).squeeze S256x1024 squeezes_S1x256x1024_S256x1024 = slotO B s :=
  congrArg (fun M : Memref sig .tc .vmem S1x256x1024 .f32 => M.squeeze S256x1024 squeezes_S1x256x1024_S256x1024) (Memref.slice_unit_congr _ e _ _ _ _)
theorem blkO_congr (A : Memref sig .tc .hbm S2816x1024 .f32) {off : Fin 2 → Nat} {b : Fin 11} (e : off = rowOff b) (hh hs) :
    A.slice (Rect.unit (s := S2816x1024) off S256x1024.size hh) hs = blkO A b := Memref.slice_unit_congr _ e _ _ _ (fun _ => rfl)

/-! ## The prologue's slices -/

@[sl_canon] theorem csm_first (A : DmaSems sig S2) (hh) :
    (A.slice (Rect.unit (s := S2) k0_off1 S1.size hh)).squeeze S_ squeezes_S1_S_ = csm A (Ring.sl 2 0) := csm_congr A (by decide) _
@[sl_canon] theorem slotW_first (B : Memref sig .tc .vmem S2x1024x256 .f32) (hh hs) :
    (B.slice (Rect.unit (s := S2x1024x256) k0_off2 S1x1024x256.size hh) hs).squeeze S1024x256 squeezes_S1x1024x256_S1024x256 = slotW B (Ring.sl 2 0) := slotW_congr B (by decide) _ _
@[sl_canon] theorem blkW_first (A : Memref sig .tc .hbm S1024x2816 .f32) (hh hs) :
    A.slice (Rect.unit (s := S1024x2816) ![0, 0] S1024x256.size hh) hs = blkW A (Ring.bk 11 0) := blkW_congr A (by decide) _ _
@[sl_canon] theorem slotB_first (B : Memref sig .tc .vmem S2x1x256 .f32) (hh hs) :
    (B.slice (Rect.unit (s := S2x1x256) k0_off3 S1x1x256.size hh) hs).squeeze S1x256 squeezes_S1x1x256_S1x256 = slotB B (Ring.sl 2 0) := slotB_congr B (by decide) _ _
@[sl_canon] theorem blkB_first (A : Memref sig .tc .hbm S1x2816 .f32) (hh hs) :
    A.slice (Rect.unit (s := S1x2816) ![0, 0] S1x256.size hh) hs = blkB A (Ring.bk 11 0) := blkB_congr A (by decide) _ _
@[sl_canon] theorem slotO_first (B : Memref sig .tc .vmem S2x256x1024 .f32) (hh hs) :
    (B.slice (Rect.unit (s := S2x256x1024) k0_off4 S1x256x1024.size hh) hs).squeeze S256x1024 squeezes_S1x256x1024_S256x1024 = slotO B (Ring.sl 2 0) := slotO_congr B (by decide) _ _
@[sl_canon] theorem blkO_first (A : Memref sig .tc .hbm S2816x1024 .f32) (hh hs) :
    A.slice (Rect.unit (s := S2816x1024) ![0, 0] S256x1024.size hh) hs = blkO A (Ring.bk 11 0) := blkO_congr A (by decide) _ _

/-! ## The loop's slices at trip `k`: what is copied in next (block `k + 1`) and what is waited for (block `k`) -/

section Loop
variable (k : Trip)

@[sl_canon] theorem sem_off5 (A : DmaSems sig S2) (hh) :
    (A.slice (Rect.unit (s := S2) (k0_off5 (wd (k.val + 1))) S1.size hh)).squeeze S_ squeezes_S1_S_ = csm A (Ring.sl 2 (k.val + 1)) := csm_congr A (by revert k; decide) _
@[sl_canon] theorem slot_off6 (B : Memref sig .tc .vmem S2x1024x256 .f32) (hh hs) :
    (B.slice (Rect.unit (s := S2x1024x256) (k0_off6 (wd (k.val + 1))) S1x1024x256.size hh) hs).squeeze S1024x256 squeezes_S1x1024x256_S1024x256 = slotW B (Ring.sl 2 (k.val + 1)) := slotW_congr B (by revert k; decide) _ _
@[sl_canon] theorem blk_off7 (A : Memref sig .tc .hbm S1024x2816 .f32) (hh hs) :
    A.slice (Rect.unit (s := S1024x2816) (k0_off7 (wd k.val)) S1024x256.size hh) hs = blkW A (Ring.bk 11 (k.val + 1)) := blkW_congr A (by revert k; decide) _ _
@[sl_canon] theorem sem_off8 (A : DmaSems sig S2) (hh) :
    (A.slice (Rect.unit (s := S2) (k0_off8 (wd (k.val + 1))) S1.size hh)).squeeze S_ squeezes_S1_S_ = csm A (Ring.sl 2 (k.val + 1)) := csm_congr A (by revert k; decide) _
@[sl_canon] theorem slot_off9 (B : Memref sig .tc .vmem S2x1x256 .f32) (hh hs) :
    (B.slice (Rect.unit (s := S2x1x256) (k0_off9 (wd (k.val + 1))) S1x1x256.size hh) hs).squeeze S1x256 squeezes_S1x1x256_S1x256 = slotB B (Ring.sl 2 (k.val + 1)) := slotB_congr B (by revert k; decide) _ _
@[sl_canon] theorem blk_off10 (A : Memref sig .tc .hbm S1x2816 .f32) (hh hs) :
    A.slice (Rect.unit (s := S1x2816) (k0_off10 (wd k.val)) S1x256.size hh) hs = blkB A (Ring.bk 11 (k.val + 1)) := blkB_congr A (by revert k; decide) _ _
@[sl_canon] theorem sem_off11 (A : DmaSems sig S2) (hh) :
    (A.slice (Rect.unit (s := S2) (k0_off11 (wd (k.val + 1))) S1.size hh)).squeeze S_ squeezes_S1_S_ = csm A (Ring.sl 2 (k.val + 1)) := csm_congr A (by revert k; decide) _
@[sl_canon] theorem slot_off12 (B : Memref sig .tc .vmem S2x1024x256 .f32) (hh hs) :
    (B.slice (Rect.unit (s := S2x1024x256) (k0_off12 (wd (k.val + 1))) S1x1024x256.size hh) hs).squeeze S1024x256 squeezes_S1x1024x256_S1024x256 = slotW B (Ring.sl 2 (k.val + 1)) := slotW_congr B (by revert k; decide) _ _
@[sl_canon] theorem blk_off13 (A : Memref sig .tc .hbm S1024x2816 .f32) (hh hs) :
    A.slice (Rect.unit (s := S1024x2816) (k0_off13 (wd k.val)) S1024x256.size hh) hs = blkW A (Ring.bk 11 (k.val + 1)) := blkW_congr A (by revert k; decide) _ _
@[sl_canon] theorem sem_off14 (A : DmaSems sig S2) (hh) :
    (A.slice (Rect.unit (s := S2) (k0_off14 (wd (k.val + 1))) S1.size hh)).squeeze S_ squeezes_S1_S_ = csm A (Ring.sl 2 (k.val + 1)) := csm_congr A (by revert k; decide) _
@[sl_canon] theorem slot_off15 (B : Memref sig .tc .vmem S2x1x256 .f32) (hh hs) :
    (B.slice (Rect.unit (s := S2x1x256) (k0_off15 (wd (k.val + 1))) S1x1x256.size hh) hs).squeeze S1x256 squeezes_S1x1x256_S1x256 = slotB B (Ring.sl 2 (k.val + 1)) := slotB_congr B (by revert k; decide) _ _
@[sl_canon] theorem blk_off16 (A : Memref sig .tc .hbm S1x2816 .f32) (hh hs) :
    A.slice (Rect.unit (s := S1x2816) (k0_off16 (wd k.val)) S1x256.size hh) hs = blkB A (Ring.bk 11 (k.val + 1)) := blkB_congr A (by revert k; decide) _ _
@[sl_canon] theorem sem_off17 (A : DmaSems sig S2) (hh) :
    (A.slice (Rect.unit (s := S2) (k0_off17 (wd (k.val + 1))) S1.size hh)).squeeze S_ squeezes_S1_S_ = csm A (Ring.sl 2 (k.val + 1)) := csm_congr A (by revert k; decide) _
@[sl_canon] theorem slot_off18 (B : Memref sig .tc .vmem S2x256x1024 .f32) (hh hs) :
    (B.slice (Rect.unit (s := S2x256x1024) (k0_off18 (wd (k.val + 1))) S1x256x1024.size hh) hs).squeeze S256x1024 squeezes_S1x256x1024_S256x1024 = slotO B (Ring.sl 2 (k.val + 1)) := slotO_congr B (by revert k; decide) _ _
@[sl_canon] theorem blk_off19 (A : Memref sig .tc .hbm S2816x1024 .f32) (hh hs) :
    A.slice (Rect.unit (s := S2816x1024) (k0_off19 (wd k.val)) S256x1024.size hh) hs = blkO A (Ring.bk 11 (k.val + 1)) := blkO_congr A (by revert k; decide) _ _
@[sl_canon] theorem sem_off20 (A : DmaSems sig S2) (hh) :
    (A.slice (Rect.unit (s := S2) (k0_off20 (wd k.val)) S1.size hh)).squeeze S_ squeezes_S1_S_ = csm A (Ring.sl 2 k.val) := csm_congr A (by revert k; decide) _
@[sl_canon] theorem slot_off21 (B : Memref sig .tc .vmem S2x1024x256 .f32) (hh hs) :
    (B.slice (Rect.unit (s := S2x1024x256) (k0_off21 (wd k.val)) S1x1024x256.size hh) hs).squeeze S1024x256 squeezes_S1x1024x256_S1024x256 = slotW B (Ring.sl 2 k.val) := slotW_congr B (by revert k; decide) _ _
@[sl_canon] theorem blk_off22 (A : Memref sig .tc .hbm S1024x2816 .f32) (hh hs) :
    A.slice (Rect.unit (s := S1024x2816) (k0_off22 (wd k.val)) S1024x256.size hh) hs = blkW A (Ring.bk 11 k.val) := blkW_congr A (by revert k; decide) _ _
@[sl_canon] theorem sem_off23 (A : DmaSems sig S2) (hh) :
    (A.slice (Rect.unit (s := S2) (k0_off23 (wd k.val)) S1.size hh)).squeeze S_ squeezes_S1_S_ = csm A (Ring.sl 2 k.val) := csm_congr A (by revert k; decide) _
@[sl_canon] theorem slot_off24 (B : Memref sig .tc .vmem S2x1x256 .f32) (hh hs) :
    (B.slice (Rect.unit (s := S2x1x256) (k0_off24 (wd k.val)) S1x1x256.size hh) hs).squeeze S1x256 squeezes_S1x1x256_S1x256 = slotB B (Ring.sl 2 k.val) := slotB_congr B (by revert k; decide) _ _
@[sl_canon] theorem blk_off25 (A : Memref sig .tc .hbm S1x2816 .f32) (hh hs) :
    A.slice (Rect.unit (s := S1x2816) (k0_off25 (wd k.val)) S1x256.size hh) hs = blkB A (Ring.bk 11 k.val) := blkB_congr A (by revert k; decide) _ _
@[sl_canon] theorem sem_off26 (A : DmaSems sig S2) (hh) :
    (A.slice (Rect.unit (s := S2) (k0_off26 (wd k.val)) S1.size hh)).squeeze S_ squeezes_S1_S_ = csm A (Ring.sl 2 k.val) := csm_congr A (by revert k; decide) _
@[sl_canon] theorem slot_off27 (B : Memref sig .tc .vmem S2x1024x256 .f32) (hh hs) :
    (B.slice (Rect.unit (s := S2x1024x256) (k0_off27 (wd k.val)) S1x1024x256.size hh) hs).squeeze S1024x256 squeezes_S1x1024x256_S1024x256 = slotW B (Ring.sl 2 k.val) := slotW_congr B (by revert k; decide) _ _
@[sl_canon] theorem blk_off28 (A : Memref sig .tc .hbm S1024x2816 .f32) (hh hs) :
    A.slice (Rect.unit (s := S1024x2816) (k0_off28 (wd k.val)) S1024x256.size hh) hs = blkW A (Ring.bk 11 k.val) := blkW_congr A (by revert k; decide) _ _
@[sl_canon] theorem sem_off29 (A : DmaSems sig S2) (hh) :
    (A.slice (Rect.unit (s := S2) (k0_off29 (wd k.val)) S1.size hh)).squeeze S_ squeezes_S1_S_ = csm A (Ring.sl 2 k.val) := csm_congr A (by revert k; decide) _
@[sl_canon] theorem slot_off30 (B : Memref sig .tc .vmem S2x1x256 .f32) (hh hs) :
    (B.slice (Rect.unit (s := S2x1x256) (k0_off30 (wd k.val)) S1x1x256.size hh) hs).squeeze S1x256 squeezes_S1x1x256_S1x256 = slotB B (Ring.sl 2 k.val) := slotB_congr B (by revert k; decide) _ _
@[sl_canon] theorem blk_off31 (A : Memref sig .tc .hbm S1x2816 .f32) (hh hs) :
    A.slice (Rect.unit (s := S1x2816) (k0_off31 (wd k.val)) S1x256.size hh) hs = blkB A (Ring.bk 11 k.val) := blkB_congr A (by revert k; decide) _ _
@[sl_canon] theorem sem_off32 (A : DmaSems sig S2) (hh) :
    (A.slice (Rect.unit (s := S2) (k0_off32 (wd k.val)) S1.size hh)).squeeze S_ squeezes_S1_S_ = csm A (Ring.sl 2 k.val) := csm_congr A (by revert k; decide) _
@[sl_canon] theorem slot_off33 (B : Memref sig .tc .vmem S2x256x1024 .f32) (hh hs) :
    (B.slice (Rect.unit (s := S2x256x1024) (k0_off33 (wd k.val)) S1x256x1024.size hh) hs).squeeze S256x1024 squeezes_S1x256x1024_S256x1024 = slotO B (Ring.sl 2 k.val) := slotO_congr B (by revert k; decide) _ _
@[sl_canon] theorem blk_off34 (A : Memref sig .tc .hbm S2816x1024 .f32) (hh hs) :
    A.slice (Rect.unit (s := S2816x1024) (k0_off34 (wd k.val)) S256x1024.size hh) hs = blkO A (Ring.bk 11 k.val) := blkO_congr A (by revert k; decide) _ _

/-- The loads' windows: the slot of block `k`. -/
instance : ClosedOff (k0_off35 (wd k.val)) := ⟨slotOff (Ring.sl 2 k.val), by revert k; decide⟩
instance : ClosedOff (k0_off36 (wd k.val)) := ⟨slotOff (Ring.sl 2 k.val), by revert k; decide⟩
instance : ClosedOff (k0_off37 (wd k.val)) := ⟨slotOff (Ring.sl 2 k.val), by revert k; decide⟩
instance : ClosedOff (k0_off38 (wd k.val)) := ⟨slotOff (Ring.sl 2 k.val), by revert k; decide⟩
instance : ClosedOff (k0_off39 (wd k.val)) := ⟨slotOff (Ring.sl 2 k.val), by revert k; decide⟩

/-! ## The loop's checks and conditions -/

/-- The words carried into trip `k`. -/
def accAt (k : ℕ) : BitVec 32 × BitVec 32 × BitVec 32 × BitVec 32 × BitVec 32 × BitVec 32 × BitVec 32 × BitVec 32 × BitVec 32 × BitVec 32 × BitVec 32 :=
  (wd (min (k + 1) 11), wd k, wd (min (k + 1) 11), wd k, wd (min (k + 1) 11), wd k, wd (min (k + 1) 11), wd k, wd (min (k + 1) 11), wd k, wd (if k = 11 then 0 else k))

theorem chk2_at : k0_chk2 (wd k.val) := by revert k; decide
theorem chk3_at : k0_chk3 (wd k.val) := by revert k; decide
theorem chk4_at : k0_chk4 (wd k.val) := by revert k; decide
theorem chk5_at : k0_chk5 (wd k.val) := by revert k; decide
theorem chk6_at : k0_chk6 (wd k.val) := by revert k; decide
theorem chk1_at : k0_chk1 k (wd (k.val + 1)) (wd k.val) (wd (k.val + 1)) (wd k.val) (wd (k.val + 1)) (wd k.val) (wd (k.val + 1)) (wd k.val) (wd (k.val + 1)) (wd k.val) (wd k.val) := by revert k; decide
/-- Before the last trip the next blocks are copied in; at the last trip nothing is. -/
theorem issue1 (h : k.val + 1 < 11) : k0_cond1 k (wd k.val) = 1#1 := by revert k; decide
theorem noIssue1 (h : k.val = 10) : ¬ k0_cond1 k (wd k.val) = 1#1 := by revert k; decide
theorem issue2 (h : k.val + 1 < 11) : k0_cond2 k (wd k.val) = 1#1 := by revert k; decide
theorem noIssue2 (h : k.val = 10) : ¬ k0_cond2 k (wd k.val) = 1#1 := by revert k; decide
theorem issue3 (h : k.val + 1 < 11) : k0_cond3 k (wd k.val) = 1#1 := by revert k; decide
theorem noIssue3 (h : k.val = 10) : ¬ k0_cond3 k (wd k.val) = 1#1 := by revert k; decide
theorem issue4 (h : k.val + 1 < 11) : k0_cond4 k (wd k.val) = 1#1 := by revert k; decide
theorem noIssue4 (h : k.val = 10) : ¬ k0_cond4 k (wd k.val) = 1#1 := by revert k; decide
theorem issue5 (h : k.val + 1 < 11) : k0_cond5 k (wd k.val) = 1#1 := by revert k; decide
theorem noIssue5 (h : k.val = 10) : ¬ k0_cond5 k (wd k.val) = 1#1 := by revert k; decide
/-- Every trip waits for its blocks. -/
theorem wait6 : k0_cond6 k (wd k.val) = 1#1 := by revert k; decide
theorem wait7 : k0_cond7 k (wd k.val) = 1#1 := by revert k; decide
theorem wait8 : k0_cond8 k (wd k.val) = 1#1 := by revert k; decide
theorem wait9 : k0_cond9 k (wd k.val) = 1#1 := by revert k; decide
theorem wait10 : k0_cond10 k (wd k.val) = 1#1 := by revert k; decide

end Loop

end Cert.Proof.Pipe

end
-- ==== Proof.Trip.lean ====
/-
  One trip of the pipelined kernel's loop, for any float operations, and the loop's invariant.

  Before trip `k` each of the five rings has block `k` on its way into slot `k % 2`, its other slot free, and every other
  block of its operand at home. The trip sends block `k + 1` off (not at the last trip), waits for block `k`, computes,
  and adds into the output block. One description `ringAt` serves all five rings.
-/
module

public import proofs.«01_k».proof.Proof.Names
public import Idealize.ShloMosaic.Lib.Transfers

@[expose] public section

noncomputable section

namespace Cert.Proof.Pipe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-! ## The memrefs: the operands left in HBM and the rings -/

abbrev hWG : Memref sig .tc .hbm S1024x2816 .f32 := Memref.whole main_arg3
abbrev hBG : Memref sig .tc .hbm S1x2816 .f32 := Memref.whole main_call0_v2
abbrev hWU : Memref sig .tc .hbm S1024x2816 .f32 := Memref.whole main_arg5
abbrev hBU : Memref sig .tc .hbm S1x2816 .f32 := Memref.whole main_call0_v3
abbrev hWO : Memref sig .tc .hbm S2816x1024 .f32 := Memref.whole main_arg7
abbrev rWG : Memref sig .tc .vmem S2x1024x256 .f32 := Memref.whole cc0_scoped0
abbrev rBG : Memref sig .tc .vmem S2x1x256 .f32 := Memref.whole cc0_scoped2
abbrev rWU : Memref sig .tc .vmem S2x1024x256 .f32 := Memref.whole cc0_scoped4
abbrev rBU : Memref sig .tc .vmem S2x1x256 .f32 := Memref.whole cc0_scoped6
abbrev rWO : Memref sig .tc .vmem S2x256x1024 .f32 := Memref.whole cc0_scoped8

/-! ## A ring: its slots, its operand's blocks, its semaphores -/

section Ring

variable (c : Dev nD) {S : Shape} (slot : Fin 2 → Memref sig .tc .vmem S .f32) (blk : Fin 11 → Memref sig .tc .hbm S .f32)
  (A : DmaSems sig S2) (n : ℕ) (X : ∀ b, Buf (Elt F) ((blk b).view.loc (c : Thread nD τ)))

/-- Slot `s`'s semaphore at rest. -/
abbrev cellP (s : Fin 2) : sProp 𝕄 := semVal ((c : Thread nD τ), SemLoc.dma (csm A s).sem) 0
abbrev slotP (s : Fin 2) (f : Buf (Elt F) ((slot s).view.loc (c : Thread nD τ))) : sProp 𝕄 :=
  (slot s).view.loc (c : Thread nD τ) ↦[(slot s).view.set]{fullShare} f
abbrev homeP (b : Fin 11) : sProp 𝕄 := (blk b).view.loc (c : Thread nD τ) ↦[(blk b).view.set]{fullShare} X b
/-- Block `b`'s words, and what they leave in slot `s` over `f`. -/
abbrev payload (b : Fin 11) : S.Idx → Elt F .f32 := ReadAs.same.apply ((blk b).view.read (Elt F) (X b))
abbrev landed (s : Fin 2) (b : Fin 11) (f : Buf (Elt F) ((slot s).view.loc (c : Thread nD τ))) : Buf (Elt F) ((slot s).view.loc (c : Thread nD τ)) :=
  (slot s).view.writes (Elt F) f [⟨Rect.whole S, payload c blk X b⟩]
/-- Slot `s` with block `b` on its way, sent over `f`. -/
abbrev flightP (s : Fin 2) (b : Fin 11) (f : Buf (Elt F) ((slot s).view.loc (c : Thread nD τ))) : sProp 𝕄 :=
  Transfers.Flight countersEmb (c : Thread nD τ) (SemLoc.dma (csm A s).sem) () n iprop(slotP c slot s (landed c slot blk X s b f) ∗ homeP c blk X b)
abbrev freeP (s : Fin 2) : sProp 𝕄 := iprop((∃ f, slotP c slot s f) ∗ cellP c A s)

/-- The ring before trip `k`. -/
def ringAt (k : ℕ) : sProp 𝕄 :=
  iprop(bigSep (Ring.homeSet 1 k) (homeP c blk X)
    ∗ Ring.roleAt (freeP c slot A (Ring.sl 2 k)) (fun b => iprop(∃ f, flightP c slot blk A n X (Ring.sl 2 k) b f)) k
    ∗ freeP c slot A (Ring.sl 2 (k + 1)))

/-- Before a trip that is not the last: block `k + 1`, about to leave, apart. -/
theorem ring_here (k : ℕ) (hk : k + 1 < 11) :
    ringAt c slot blk A n X k = iprop((homeP c blk X (Ring.bk 11 (k + 1)) ∗ bigSep ((Ring.homeSet 1 k).erase (Ring.bk 11 (k + 1))) (homeP c blk X))
      ∗ (∃ f, flightP c slot blk A n X (Ring.sl 2 k) (Ring.bk 11 k) f) ∗ freeP c slot A (Ring.sl 2 (k + 1))) := by
  rw [ringAt, Ring.roleAt_of_lt _ _ _ (by omega : k < 11)]
  conv_lhs => rw [Ring.homeSet_out 1 k hk, bigSep_insert (Ring.bkL_not_mem_erase 1 k)]
  rfl
/-- After it: block `k`, just back, apart. -/
theorem ring_next (k : ℕ) (hk : k + 1 < 11) :
    ringAt c slot blk A n X (k + 1) = iprop((homeP c blk X (Ring.bk 11 k) ∗ bigSep ((Ring.homeSet 1 k).erase (Ring.bk 11 (k + 1))) (homeP c blk X))
      ∗ (∃ f, flightP c slot blk A n X (Ring.sl 2 (k + 1)) (Ring.bk 11 (k + 1)) f) ∗ freeP c slot A (Ring.sl 2 k)) := by
  rw [ringAt, Ring.roleAt_of_lt _ _ _ hk, show k + 1 + 1 = k + 2 from rfl, Ring.sl_add]
  conv_lhs => rw [Ring.homeSet_succ 1 k hk, bigSep_insert (Ring.bk_not_mem_erase 1 k (by omega) (by decide))]
  rfl
/-- Before the last trip. -/
theorem ring_last (k : ℕ) (hk : k = 10) :
    ringAt c slot blk A n X k = iprop(bigSep (Ring.homeSet 1 k) (homeP c blk X)
      ∗ (∃ f, flightP c slot blk A n X (Ring.sl 2 k) (Ring.bk 11 k) f) ∗ freeP c slot A (Ring.sl 2 (k + 1))) := by
  rw [ringAt, Ring.roleAt_of_lt _ _ _ (by omega : k < 11)]
/-- After it, everything at home. -/
theorem ring_end (k : ℕ) (hk : k = 10) :
    ringAt c slot blk A n X (k + 1) = iprop((homeP c blk X (Ring.bk 11 k) ∗ bigSep (Ring.homeSet 1 k) (homeP c blk X))
      ∗ freeP c slot A (Ring.sl 2 (k + 1)) ∗ freeP c slot A (Ring.sl 2 k)) := by
  rw [ringAt, Ring.roleAt_of_le _ _ _ (by omega : 11 ≤ k + 1), show k + 1 + 1 = k + 2 from rfl, Ring.sl_add]
  conv_lhs => rw [Ring.homeSet_succ_tail 1 k (by omega) (by omega), bigSep_insert (Ring.bk_not_mem_homeSet 1 k (by omega) (by decide))]
  rfl

end Ring

/-! ## One trip -/

section Trip

variable (c : Dev nD)
  (XWG : Buf (Elt F) (hWG.view.loc (c : Thread nD τ))) (XBG : Buf (Elt F) (hBG.view.loc (c : Thread nD τ)))
  (XWU : Buf (Elt F) (hWU.view.loc (c : Thread nD τ))) (XBU : Buf (Elt F) (hBU.view.loc (c : Thread nD τ)))
  (XWO : Buf (Elt F) (hWO.view.loc (c : Thread nD τ)))

abbrev ringWG (k : ℕ) : sProp 𝕄 := ringAt c (slotW rWG) (blkW hWG) cc0_scoped1 32768 (fun _ => XWG) k
abbrev ringBG (k : ℕ) : sProp 𝕄 := ringAt c (slotB rBG) (blkB hBG) cc0_scoped3 32 (fun _ => XBG) k
abbrev ringWU (k : ℕ) : sProp 𝕄 := ringAt c (slotW rWU) (blkW hWU) cc0_scoped5 32768 (fun _ => XWU) k
abbrev ringBU (k : ℕ) : sProp 𝕄 := ringAt c (slotB rBU) (blkB hBU) cc0_scoped7 32 (fun _ => XBU) k
abbrev ringWO (k : ℕ) : sProp 𝕄 := ringAt c (slotO rWO) (blkO hWO) cc0_scoped9 32768 (fun _ => XWO) k

variable
  (arg0 : Memref sig .tc .vmem S2048x1024 .f32) (harg0 : arg0.IsWhole) (arg1 : Memref sig .tc .vmem S1024x8 .f32) (harg1 : arg1.IsWhole)
  (arg2 : Memref sig .tc .vmem S1x1024 .f32) (harg2 : arg2.IsWhole) (arg3 : Memref sig .tc .vmem S1x1024 .f32) (harg3 : arg3.IsWhole)
  (arg9 : Memref sig .tc .vmem S2048x1024 .f32) (harg9 : arg9.IsWhole) (arg10 : Memref sig .tc .vmem S1x8 .f32) (harg10 : arg10.IsWhole)
  (arg11 : Memref sig .tc .vmem S1x1 .f32) (harg11 : arg11.IsWhole)
  (v43 : FVec F S2048x1 .f32) (v49 : FVec F S2048x1 .f32) (v71 : FVec F S2048x1024 .bf16) (a b : BitVec 32)

abbrev oP (fo : Buf (Elt F) (arg9.view.loc (c : Thread nD τ))) : sProp 𝕄 := arg9.view.loc (c : Thread nD τ) ↦[arg9.view.set]{fullShare} fo

/-- What a trip holds: the output block, the core's waits, the five rings. -/
def resAt (k : ℕ) (fo : Buf (Elt F) (arg9.view.loc (c : Thread nD τ))) : sProp 𝕄 :=
  iprop(oP c arg9 fo ∗ (∃ W, owes (c : Thread nD τ) 0 W)
    ∗ ringWG c XWG k ∗ ringBG c XBG k ∗ ringWU c XWU k ∗ ringBU c XBU k ∗ ringWO c XWO k)

abbrev tripG (k : Trip) (w : BitVec 32 × BitVec 32 × BitVec 32 × BitVec 32 × BitVec 32 × BitVec 32 × BitVec 32 × BitVec 32 × BitVec 32 × BitVec 32 × BitVec 32) :=
  k0_t1_body (F := F) arg0 harg0 arg1 harg1 arg2 harg2 arg3 harg3 hWG (Memref.isWhole_whole _) hBG (Memref.isWhole_whole _) hWU (Memref.isWhole_whole _)
    hBU (Memref.isWhole_whole _) hWO (Memref.isWhole_whole _) arg9 harg9 arg10 harg10 arg11 harg11 rWG (Memref.isWhole_whole _) cc0_scoped1
    rBG (Memref.isWhole_whole _) cc0_scoped3 rWU (Memref.isWhole_whole _) cc0_scoped5 rBU (Memref.isWhole_whole _) cc0_scoped7
    rWO (Memref.isWhole_whole _) cc0_scoped9 v43 v49 v71 a b k w

abbrev R00 : Rect S2048x1024 := Rect.unit (s := S2048x1024) ![0, 0] S2048x1024.size inb_S2048x1024_S2048x1024_0_0

theorem accAt_any (k : Trip) : accAt k.val =
    (wd (k.val + 1), wd k.val, wd (k.val + 1), wd k.val, wd (k.val + 1), wd k.val, wd (k.val + 1), wd k.val, wd (k.val + 1), wd k.val, wd k.val) := by
  have h : k.val < 11 := k.isLt
  rw [accAt, show min (k.val + 1) 11 = k.val + 1 by omega, if_neg (by omega)]

set_option maxHeartbeats 1000000 in
set_option backward.proofsInPublic true in
/-- A trip that is not the last, its stored sum to be found. -/
def tripRun (k : Trip) (hk : k.val + 1 < 11) (fo : Buf (Elt F) (arg9.view.loc (c : Thread nD τ))) :
    { w : (R00).shape.Idx → Elt F .f32 //
      resAt c XWG XBG XWU XBU XWO arg9 k fo ⊢ wp frame (wpE (defs₀ (F := F)) 𝒱₀ (c : Thread nD τ) none) Set.univ
        (tripG arg0 harg0 arg1 harg1 arg2 harg2 arg3 harg3 arg9 harg9 arg10 harg10 arg11 harg11 v43 v49 v71 a b k
          (wd (k.val + 1), wd k.val, wd (k.val + 1), wd k.val, wd (k.val + 1), wd k.val, wd (k.val + 1), wd k.val, wd (k.val + 1), wd k.val, wd k.val))
        (fun acc => iprop(⌜acc = accAt (k.val + 1)⌝ ∗ resAt c XWG XBG XWU XBU XWO arg9 (k.val + 1) (arg9.view.writes (Elt F) fo [⟨R00, w⟩]))) } := by
  have c1 := chk1_at k; have c2 := chk2_at k; have c3 := chk3_at k; have c4 := chk4_at k; have c5 := chk5_at k; have c6 := chk6_at k
  refine ⟨?_, ?run⟩
  case run =>
    have i1 := issue1 k hk; have i2 := issue2 k hk; have i3 := issue3 k hk; have i4 := issue4 k hk; have i5 := issue5 k hk
    have w6 := wait6 k; have w7 := wait7 k; have w8 := wait8 k; have w9 := wait9 k; have w10 := wait10 k
    unfold resAt
    unfold ringWG ringBG ringWU ringBU ringWO
    rw [ring_here c (slotW rWG) (blkW hWG) cc0_scoped1 32768 (fun _ => XWG) k.val hk,
      ring_here c (slotB rBG) (blkB hBG) cc0_scoped3 32 (fun _ => XBG) k.val hk,
      ring_here c (slotW rWU) (blkW hWU) cc0_scoped5 32768 (fun _ => XWU) k.val hk,
      ring_here c (slotB rBU) (blkB hBU) cc0_scoped7 32 (fun _ => XBU) k.val hk,
      ring_here c (slotO rWO) (blkO hWO) cc0_scoped9 32768 (fun _ => XWO) k.val hk,
      ring_next c (slotW rWG) (blkW hWG) cc0_scoped1 32768 (fun _ => XWG) k.val hk,
      ring_next c (slotB rBG) (blkB hBG) cc0_scoped3 32 (fun _ => XBG) k.val hk,
      ring_next c (slotW rWU) (blkW hWU) cc0_scoped5 32768 (fun _ => XWU) k.val hk,
      ring_next c (slotB rBU) (blkB hBU) cc0_scoped7 32 (fun _ => XBU) k.val hk,
      ring_next c (slotO rWO) (blkO hWO) cc0_scoped9 32768 (fun _ => XWO) k.val hk]
    iintro ⟨HO, ⟨%W, HW⟩, ⟨⟨Hh1, Hr1⟩, ⟨%f1, HF1⟩, ⟨%g1, Hs1⟩, Hc1⟩, ⟨⟨Hh2, Hr2⟩, ⟨%f2, HF2⟩, ⟨%g2, Hs2⟩, Hc2⟩,
      ⟨⟨Hh3, Hr3⟩, ⟨%f3, HF3⟩, ⟨%g3, Hs3⟩, Hc3⟩, ⟨⟨Hh4, Hr4⟩, ⟨%f4, HF4⟩, ⟨%g4, Hs4⟩, Hc4⟩, ⟨⟨Hh5, Hr5⟩, ⟨%f5, HF5⟩, ⟨%g5, Hs5⟩, Hc5⟩⟩
    dsimp only [tripG]
    sl_unfold [k0_t1_body]
    sl_exec
    sl_step
    isplitr
    · ipureintro
      clear c1 c2 c3 c4 c5 c6 i1 i2 i3 i4 i5 w6 w7 w8 w9 w10
      simp only [accAt, Prod.mk.injEq]
      refine ⟨?_, ?_, ?_, ?_, ?_, ?_, ?_, ?_, ?_, ?_, ?_⟩ <;> (clear * - hk; revert k; decide)
    isplitl [HO]; · iexact HO
    isplitl [HW]; · iexists _; iexact HW
    isplitl [HF1_src Hr1 Hc1 HF1_dst HF1]
    · isplitl [HF1_src Hr1]
      · isplitl [HF1_src]; · iexact HF1_src
        iexact Hr1
      isplitl [Hc1]; · iexists g1; iexact Hc1
      isplitl [HF1_dst]; · iexists _; iexact HF1_dst
      iexact HF1
    isplitl [HF2_src Hr2 Hc2 HF2_dst HF2]
    · isplitl [HF2_src Hr2]
      · isplitl [HF2_src]; · iexact HF2_src
        iexact Hr2
      isplitl [Hc2]; · iexists g2; iexact Hc2
      isplitl [HF2_dst]; · iexists _; iexact HF2_dst
      iexact HF2
    isplitl [HF3_src Hr3 Hc3 HF3_dst HF3]
    · isplitl [HF3_src Hr3]
      · isplitl [HF3_src]; · iexact HF3_src
        iexact Hr3
      isplitl [Hc3]; · iexists g3; iexact Hc3
      isplitl [HF3_dst]; · iexists _; iexact HF3_dst
      iexact HF3
    isplitl [HF4_src Hr4 Hc4 HF4_dst HF4]
    · isplitl [HF4_src Hr4]
      · isplitl [HF4_src]; · iexact HF4_src
        iexact Hr4
      isplitl [Hc4]; · iexists g4; iexact Hc4
      isplitl [HF4_dst]; · iexists _; iexact HF4_dst
      iexact HF4
    isplitl [HF5_src Hr5]
    · isplitl [HF5_src]; · iexact HF5_src
      iexact Hr5
    isplitl [Hc5]; · iexists g5; iexact Hc5
    isplitl [HF5_dst]; · iexists _; iexact HF5_dst
    iexact HF5

set_option maxHeartbeats 1000000 in
set_option backward.proofsInPublic true in
/-- The last trip: nothing more is sent off. -/
def tripLast (k : Trip) (hk : k.val = 10) (fo : Buf (Elt F) (arg9.view.loc (c : Thread nD τ))) :
    { w : (R00).shape.Idx → Elt F .f32 //
      resAt c XWG XBG XWU XBU XWO arg9 k fo ⊢ wp frame (wpE (defs₀ (F := F)) 𝒱₀ (c : Thread nD τ) none) Set.univ
        (tripG arg0 harg0 arg1 harg1 arg2 harg2 arg3 harg3 arg9 harg9 arg10 harg10 arg11 harg11 v43 v49 v71 a b k
          (wd (k.val + 1), wd k.val, wd (k.val + 1), wd k.val, wd (k.val + 1), wd k.val, wd (k.val + 1), wd k.val, wd (k.val + 1), wd k.val, wd k.val))
        (fun acc => iprop(⌜acc = accAt (k.val + 1)⌝ ∗ resAt c XWG XBG XWU XBU XWO arg9 (k.val + 1) (arg9.view.writes (Elt F) fo [⟨R00, w⟩]))) } := by
  have c1 := chk1_at k; have c2 := chk2_at k; have c3 := chk3_at k; have c4 := chk4_at k; have c5 := chk5_at k; have c6 := chk6_at k
  refine ⟨?_, ?run⟩
  case run =>
    have i1 := noIssue1 k hk; have i2 := noIssue2 k hk; have i3 := noIssue3 k hk; have i4 := noIssue4 k hk; have i5 := noIssue5 k hk
    have w6 := wait6 k; have w7 := wait7 k; have w8 := wait8 k; have w9 := wait9 k; have w10 := wait10 k
    unfold resAt
    unfold ringWG ringBG ringWU ringBU ringWO
    rw [ring_last c (slotW rWG) (blkW hWG) cc0_scoped1 32768 (fun _ => XWG) k.val hk,
      ring_last c (slotB rBG) (blkB hBG) cc0_scoped3 32 (fun _ => XBG) k.val hk,
      ring_last c (slotW rWU) (blkW hWU) cc0_scoped5 32768 (fun _ => XWU) k.val hk,
      ring_last c (slotB rBU) (blkB hBU) cc0_scoped7 32 (fun _ => XBU) k.val hk,
      ring_last c (slotO rWO) (blkO hWO) cc0_scoped9 32768 (fun _ => XWO) k.val hk,
      ring_end c (slotW rWG) (blkW hWG) cc0_scoped1 32768 (fun _ => XWG) k.val hk,
      ring_end c (slotB rBG) (blkB hBG) cc0_scoped3 32 (fun _ => XBG) k.val hk,
      ring_end c (slotW rWU) (blkW hWU) cc0_scoped5 32768 (fun _ => XWU) k.val hk,
      ring_end c (slotB rBU) (blkB hBU) cc0_scoped7 32 (fun _ => XBU) k.val hk,
      ring_end c (slotO rWO) (blkO hWO) cc0_scoped9 32768 (fun _ => XWO) k.val hk]
    iintro ⟨HO, ⟨%W, HW⟩, ⟨Hr1, ⟨%f1, HF1⟩, ⟨%g1, Hs1⟩, Hc1⟩, ⟨Hr2, ⟨%f2, HF2⟩, ⟨%g2, Hs2⟩, Hc2⟩,
      ⟨Hr3, ⟨%f3, HF3⟩, ⟨%g3, Hs3⟩, Hc3⟩, ⟨Hr4, ⟨%f4, HF4⟩, ⟨%g4, Hs4⟩, Hc4⟩, ⟨Hr5, ⟨%f5, HF5⟩, ⟨%g5, Hs5⟩, Hc5⟩⟩
    dsimp only [tripG]
    sl_unfold [k0_t1_body]
    sl_exec
    sl_step
    isplitr
    · ipureintro
      clear c1 c2 c3 c4 c5 c6 i1 i2 i3 i4 i5 w6 w7 w8 w9 w10
      simp only [accAt, Prod.mk.injEq]
      refine ⟨?_, ?_, ?_, ?_, ?_, ?_, ?_, ?_, ?_, ?_, ?_⟩ <;> (clear * - hk; revert k; decide)
    isplitl [HO]; · iexact HO
    isplitl [HW]; · iexists _; iexact HW
    isplitl [HF1_src Hr1 Hs1 Hc1 HF1_dst HF1]
    · isplitl [HF1_src Hr1]
      · isplitl [HF1_src]; · iexact HF1_src
        iexact Hr1
      isplitl [Hs1 Hc1]
      · isplitl [Hs1]; · iexists g1; iexact Hs1
        iexact Hc1
      isplitl [HF1_dst]; · iexists _; iexact HF1_dst
      iexact HF1
    isplitl [HF2_src Hr2 Hs2 Hc2 HF2_dst HF2]
    · isplitl [HF2_src Hr2]
      · isplitl [HF2_src]; · iexact HF2_src
        iexact Hr2
      isplitl [Hs2 Hc2]
      · isplitl [Hs2]; · iexists g2; iexact Hs2
        iexact Hc2
      isplitl [HF2_dst]; · iexists _; iexact HF2_dst
      iexact HF2
    isplitl [HF3_src Hr3 Hs3 Hc3 HF3_dst HF3]
    · isplitl [HF3_src Hr3]
      · isplitl [HF3_src]; · iexact HF3_src
        iexact Hr3
      isplitl [Hs3 Hc3]
      · isplitl [Hs3]; · iexists g3; iexact Hs3
        iexact Hc3
      isplitl [HF3_dst]; · iexists _; iexact HF3_dst
      iexact HF3
    isplitl [HF4_src Hr4 Hs4 Hc4 HF4_dst HF4]
    · isplitl [HF4_src Hr4]
      · isplitl [HF4_src]; · iexact HF4_src
        iexact Hr4
      isplitl [Hs4 Hc4]
      · isplitl [Hs4]; · iexists g4; iexact Hs4
        iexact Hc4
      isplitl [HF4_dst]; · iexists _; iexact HF4_dst
      iexact HF4
    isplitl [HF5_src Hr5]
    · isplitl [HF5_src]; · iexact HF5_src
      iexact Hr5
    isplitl [Hs5 Hc5]
    · isplitl [Hs5]; · iexists g5; iexact Hs5
      iexact Hc5
    isplitl [HF5_dst]; · iexists _; iexact HF5_dst
    iexact HF5

/-! ## What a trip stores, and the loop's invariant -/

/-- The five slots as trip `k` reads them: block `k` as it was delivered. -/
def wgAt (k : Trip) : Vec F S1x1024x256 .f32 :=
  rWG.view.readAt (Elt F) (Rect.unit (s := S2x1024x256) (k0_off35 (wd k.val)) S1x1024x256.size (k0_off35_inb _ (chk2_at k))).toLoadRect
    (landed c (slotW rWG) (blkW hWG) (fun _ => XWG) (Ring.sl 2 k.val) (Ring.bk 11 k.val) (slotW rWG (Ring.sl 2 k.val)).view.junk)
def wuAt (k : Trip) : Vec F S1x1024x256 .f32 :=
  rWU.view.readAt (Elt F) (Rect.unit (s := S2x1024x256) (k0_off36 (wd k.val)) S1x1024x256.size (k0_off36_inb _ (chk3_at k))).toLoadRect
    (landed c (slotW rWU) (blkW hWU) (fun _ => XWU) (Ring.sl 2 k.val) (Ring.bk 11 k.val) (slotW rWU (Ring.sl 2 k.val)).view.junk)
def bgAt (k : Trip) : Vec F S1x1x256 .f32 :=
  rBG.view.readAt (Elt F) (Rect.unit (s := S2x1x256) (k0_off37 (wd k.val)) S1x1x256.size (k0_off37_inb _ (chk4_at k))).toLoadRect
    (landed c (slotB rBG) (blkB hBG) (fun _ => XBG) (Ring.sl 2 k.val) (Ring.bk 11 k.val) (slotB rBG (Ring.sl 2 k.val)).view.junk)
def buAt (k : Trip) : Vec F S1x1x256 .f32 :=
  rBU.view.readAt (Elt F) (Rect.unit (s := S2x1x256) (k0_off38 (wd k.val)) S1x1x256.size (k0_off38_inb _ (chk5_at k))).toLoadRect
    (landed c (slotB rBU) (blkB hBU) (fun _ => XBU) (Ring.sl 2 k.val) (Ring.bk 11 k.val) (slotB rBU (Ring.sl 2 k.val)).view.junk)
def woAt (k : Trip) : Vec F S1x256x1024 .f32 :=
  rWO.view.readAt (Elt F) (Rect.unit (s := S2x256x1024) (k0_off39 (wd k.val)) S1x256x1024.size (k0_off39_inb _ (chk6_at k))).toLoadRect
    (landed c (slotO rWO) (blkO hWO) (fun _ => XWO) (Ring.sl 2 k.val) (Ring.bk 11 k.val) (slotO rWO (Ring.sl 2 k.val)).view.junk)

/-- The sum trip `k` stores over `o`. -/
def stepVal (k : Trip) (o : Vec F S2048x1024 .f32) : Vec F S2048x1024 .f32 :=
  k0_pay3 (k0_pay1 v43 v49 v71 (wgAt c XWG k) (wuAt c XWU k) (bgAt c XBG k) (buAt c XBU k)) (k0_pay2 o) (woAt c XWO k)
/-- The output block's buffer after trip `k`, from `fo`. -/
def stepBuf (k : Trip) (fo : Buf (Elt F) (arg9.view.loc (c : Thread nD τ))) : Buf (Elt F) (arg9.view.loc (c : Thread nD τ)) :=
  arg9.view.writes (Elt F) fo [⟨R00, stepVal c XWG XBG XWU XBU XWO v43 v49 v71 k (arg9.view.readAt (Elt F) (R00).toLoadRect fo)⟩]

theorem tripRun_val (k : Trip) (hk : k.val + 1 < 11) (fo : Buf (Elt F) (arg9.view.loc (c : Thread nD τ))) :
    (tripRun c XWG XBG XWU XBU XWO arg0 harg0 arg1 harg1 arg2 harg2 arg3 harg3 arg9 harg9 arg10 harg10 arg11 harg11 v43 v49 v71 a b k hk fo).1
      = stepVal c XWG XBG XWU XBU XWO v43 v49 v71 k (arg9.view.readAt (Elt F) (R00).toLoadRect fo) := rfl
theorem tripLast_val (k : Trip) (hk : k.val = 10) (fo : Buf (Elt F) (arg9.view.loc (c : Thread nD τ))) :
    (tripLast c XWG XBG XWU XBU XWO arg0 harg0 arg1 harg1 arg2 harg2 arg3 harg3 arg9 harg9 arg10 harg10 arg11 harg11 v43 v49 v71 a b k hk fo).1
      = stepVal c XWG XBG XWU XBU XWO v43 v49 v71 k (arg9.view.readAt (Elt F) (R00).toLoadRect fo) := rfl

/-- Any trip. -/
theorem trip_any (k : Trip) (fo : Buf (Elt F) (arg9.view.loc (c : Thread nD τ))) :
    resAt c XWG XBG XWU XBU XWO arg9 k fo ⊢ wp frame (wpE (defs₀ (F := F)) 𝒱₀ (c : Thread nD τ) none) Set.univ
      (tripG arg0 harg0 arg1 harg1 arg2 harg2 arg3 harg3 arg9 harg9 arg10 harg10 arg11 harg11 v43 v49 v71 a b k (accAt k.val))
      (fun acc => iprop(⌜acc = accAt (k.val + 1)⌝
        ∗ resAt c XWG XBG XWU XBU XWO arg9 (k.val + 1) (stepBuf c XWG XBG XWU XBU XWO arg9 v43 v49 v71 k fo))) := by
  rw [accAt_any k]; unfold stepBuf
  by_cases hk : k.val + 1 < 11
  · rw [← tripRun_val c XWG XBG XWU XBU XWO arg0 harg0 arg1 harg1 arg2 harg2 arg3 harg3 arg9 harg9 arg10 harg10 arg11 harg11 v43 v49 v71 a b k hk fo]
    exact (tripRun c XWG XBG XWU XBU XWO arg0 harg0 arg1 harg1 arg2 harg2 arg3 harg3 arg9 harg9 arg10 harg10 arg11 harg11 v43 v49 v71 a b k hk fo).2
  · have hk' : k.val = 10 := by have : k.val < 11 := k.isLt; omega
    rw [← tripLast_val c XWG XBG XWU XBU XWO arg0 harg0 arg1 harg1 arg2 harg2 arg3 harg3 arg9 harg9 arg10 harg10 arg11 harg11 v43 v49 v71 a b k hk' fo]
    exact (tripLast c XWG XBG XWU XBU XWO arg0 harg0 arg1 harg1 arg2 harg2 arg3 harg3 arg9 harg9 arg10 harg10 arg11 harg11 v43 v49 v71 a b k hk' fo).2

/-- The output block's buffer before trip `k`, from its contents at the loop's start. -/
def oAcc (o0 : Buf (Elt F) (arg9.view.loc (c : Thread nD τ))) : ℕ → Buf (Elt F) (arg9.view.loc (c : Thread nD τ))
  | 0 => o0
  | k + 1 => if h : k < k0_t1_loop.trips then stepBuf c XWG XBG XWU XBU XWO arg9 v43 v49 v71 ⟨k, h⟩ (oAcc o0 k) else oAcc o0 k

set_option warn.classDefReducibility false in
/-- The loop's invariant: the words of trip `k`, the rings of trip `k`, the output block after the trips before. -/
@[sl_loop] def loopInv (o0 : Buf (Elt F) (arg9.view.loc (c : Thread nD τ)))
    (init : BitVec 32 × BitVec 32 × BitVec 32 × BitVec 32 × BitVec 32 × BitVec 32 × BitVec 32 × BitVec 32 × BitVec 32 × BitVec 32 × BitVec 32) :
    LoopInvTy_k0_t1 (F := F) Unit ℕ (UU nD τ) ℕ 𝒱₀ c none Set.univ arg0 harg0 arg1 harg1 arg2 harg2 arg3 harg3 hWG (Memref.isWhole_whole _) hBG (Memref.isWhole_whole _)
      hWU (Memref.isWhole_whole _) hBU (Memref.isWhole_whole _) hWO (Memref.isWhole_whole _) arg9 harg9 arg10 harg10 arg11 harg11 rWG (Memref.isWhole_whole _) cc0_scoped1
      rBG (Memref.isWhole_whole _) cc0_scoped3 rWU (Memref.isWhole_whole _) cc0_scoped5 rBU (Memref.isWhole_whole _) cc0_scoped7
      rWO (Memref.isWhole_whole _) cc0_scoped9 v43 v49 v71 a b init where
  inv k acc := iprop(⌜acc = accAt k⌝ ∗ resAt c XWG XBG XWU XBU XWO arg9 k (oAcc c XWG XBG XWU XBU XWO arg9 v43 v49 v71 o0 k))
  step k acc := by
    rw [oAcc, dif_pos k.isLt]
    iintro ⟨%e, H⟩
    subst e
    iapply (trip_any c XWG XBG XWU XBU XWO arg0 harg0 arg1 harg1 arg2 harg2 arg3 harg3 arg9 harg9 arg10 harg10 arg11 harg11 v43 v49 v71 a b k _)
    iexact H

end Trip

end Cert.Proof.Pipe

end
-- ==== Proof.Body.lean ====
/-
  The kernel's body run, for any float operations: the router and its two small results, the output block set to twice
  the output bias, the first block of each operand sent off, the loop, and everything handed back.
-/
module

public import proofs.«01_k».proof.Proof.Trip

@[expose] public section

noncomputable section

namespace Cert.Proof.Pipe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Ring

variable (c : Dev nD) {S : Shape} (slot : Fin 2 → Memref sig .tc .vmem S .f32) (blk : Fin 11 → Memref sig .tc .hbm S .f32)
  (A : DmaSems sig S2) (n : ℕ) (X : ∀ b, Buf (Elt F) ((blk b).view.loc (c : Thread nD τ)))

/-- A ring at rest: every block at home, both slots free. -/
def ringRest : sProp 𝕄 := iprop(bigSep Finset.univ (homeP c blk X) ∗ freeP c slot A 0 ∗ freeP c slot A 1)

theorem ring_rest : ringRest c slot blk A X = iprop((homeP c blk X (Ring.bk 11 0) ∗ bigSep (Ring.homeSet 1 0) (homeP c blk X))
    ∗ freeP c slot A (Ring.sl 2 0) ∗ freeP c slot A (Ring.sl 2 1)) := by
  rw [ringRest, (by decide : (Finset.univ : Finset (Fin 11)) = insert (Ring.bk 11 0) (Ring.homeSet 1 0)),
    bigSep_insert (by decide : Ring.bk 11 0 ∉ (Ring.homeSet 1 0 : Finset (Fin 11)))]
  rfl
/-- Before the first trip. -/
theorem ring_zero : ringAt c slot blk A n X 0 = iprop(bigSep (Ring.homeSet 1 0) (homeP c blk X)
    ∗ (∃ f, flightP c slot blk A n X (Ring.sl 2 0) (Ring.bk 11 0) f) ∗ freeP c slot A (Ring.sl 2 1)) := by
  rw [ringAt, Ring.roleAt_of_lt _ _ _ (by omega : 0 < 11)]
/-- After the last trip. -/
theorem ring_done : ringAt c slot blk A n X 11 ⊢ ringRest c slot blk A X := by
  rw [ringAt, Ring.roleAt_of_le _ _ _ (le_refl 11), ringRest, (by decide : Ring.homeSet 1 11 = (Finset.univ : Finset (Fin 11))), (by decide : Ring.sl 2 11 = 1), (by decide : Ring.sl 2 (11 + 1) = 0)]
  iintro ⟨H, H1, H0⟩
  isplitl [H]; · iexact H
  isplitl [H0]; · iexact H0
  iexact H1

end Ring

section Body

variable (c : Dev nD)
  (XWG : Buf (Elt F) (hWG.view.loc (c : Thread nD τ))) (XBG : Buf (Elt F) (hBG.view.loc (c : Thread nD τ)))
  (XWU : Buf (Elt F) (hWU.view.loc (c : Thread nD τ))) (XBU : Buf (Elt F) (hBU.view.loc (c : Thread nD τ)))
  (XWO : Buf (Elt F) (hWO.view.loc (c : Thread nD τ)))

/-- The five rings at rest. -/
def rest : sProp 𝕄 :=
  iprop(ringRest c (slotW rWG) (blkW hWG) cc0_scoped1 (fun _ => XWG) ∗ ringRest c (slotB rBG) (blkB hBG) cc0_scoped3 (fun _ => XBG)
    ∗ ringRest c (slotW rWU) (blkW hWU) cc0_scoped5 (fun _ => XWU) ∗ ringRest c (slotB rBU) (blkB hBU) cc0_scoped7 (fun _ => XBU)
    ∗ ringRest c (slotO rWO) (blkO hWO) cc0_scoped9 (fun _ => XWO))

variable
  (arg0 : Memref sig .tc .vmem S2048x1024 .f32) (harg0 : arg0.IsWhole) (arg1 : Memref sig .tc .vmem S1024x8 .f32) (harg1 : arg1.IsWhole)
  (arg2 : Memref sig .tc .vmem S1x1024 .f32) (harg2 : arg2.IsWhole) (arg3 : Memref sig .tc .vmem S1x1024 .f32) (harg3 : arg3.IsWhole)
  (arg9 : Memref sig .tc .vmem S2048x1024 .f32) (harg9 : arg9.IsWhole) (arg10 : Memref sig .tc .vmem S1x8 .f32) (harg10 : arg10.IsWhole)
  (arg11 : Memref sig .tc .vmem S1x1 .f32) (harg11 : arg11.IsWhole)
  (g0 : Buf (Elt F) (arg0.view.loc (c : Thread nD τ))) (g1 : Buf (Elt F) (arg1.view.loc (c : Thread nD τ)))
  (g2 : Buf (Elt F) (arg2.view.loc (c : Thread nD τ))) (g3 : Buf (Elt F) (arg3.view.loc (c : Thread nD τ)))

abbrev at0 (arg : Memref sig .tc .vmem S2048x1024 .f32) (g : Buf (Elt F) (arg.view.loc (c : Thread nD τ))) : Vec F S2048x1024 .f32 :=
  arg.view.readAt (Elt F) (R00).toLoadRect g
abbrev at1 (arg : Memref sig .tc .vmem S1024x8 .f32) (g : Buf (Elt F) (arg.view.loc (c : Thread nD τ))) : Vec F S1024x8 .f32 :=
  arg.view.readAt (Elt F) (Rect.unit (s := S1024x8) ![0, 0] S1024x8.size inb_S1024x8_S1024x8_0_0).toLoadRect g
abbrev at2 (arg : Memref sig .tc .vmem S1x1024 .f32) (g : Buf (Elt F) (arg.view.loc (c : Thread nD τ))) : Vec F S1x1024 .f32 :=
  arg.view.readAt (Elt F) (Rect.unit (s := S1x1024) ![0, 0] S1x1024.size inb_S1x1024_S1x1024_0_0).toLoadRect g

/-- The two experts' scales, and the scaled input, from the words loaded. -/
abbrev cOne (x : Vec F S2048x1024 .f32) (wr : Vec F S1024x8 .f32) : FVec F S2048x1 .f32 := k0_pay11 x wr
abbrev cTwo (x : Vec F S2048x1024 .f32) (wr : Vec F S1024x8 .f32) : FVec F S2048x1 .f32 := k0_pay13 (k0_pay5 x) (k0_pay10 x wr) (k0_pay12 x wr)
abbrev xScaled (x : Vec F S2048x1024 .f32) (sc : Vec F S1x1024 .f32) : FVec F S2048x1024 .bf16 := k0_pay16 (k0_pay4 x) sc

/-- The output block's buffer before the loop. -/
abbrev oInit : Buf (Elt F) (arg9.view.loc (c : Thread nD τ)) :=
  arg9.view.writes (Elt F) arg9.view.junk [⟨R00, k0_pay17 (at2 c arg3 g3)⟩]
/-- The three results' buffers at the end. -/
abbrev outBuf : Buf (Elt F) (arg9.view.loc (c : Thread nD τ)) :=
  oAcc c XWG XBG XWU XBU XWO arg9 (cOne (at0 c arg0 g0) (at1 c arg1 g1)) (cTwo (at0 c arg0 g0) (at1 c arg1 g1)) (xScaled (at0 c arg0 g0) (at2 c arg2 g2))
    (oInit c arg3 arg9 g3) 11
abbrev useBuf : Buf (Elt F) (arg10.view.loc (c : Thread nD τ)) :=
  arg10.view.writes (Elt F) arg10.view.junk [⟨Rect.unit (s := S1x8) ![0, 0] S1x8.size inb_S1x8_S1x8_0_0, k0_pay14 (k0_pay6 (at0 c arg0 g0) (at1 c arg1 g1))⟩]
abbrev lossBuf : Buf (Elt F) (arg11.view.loc (c : Thread nD τ)) :=
  arg11.view.writes (Elt F) arg11.view.junk [⟨Rect.unit (s := S1x1) ![0, 0] S1x1.size inb_S1x1_S1x1_0_0, k0_pay15 (k0_pay6 (at0 c arg0 g0) (at1 c arg1 g1))⟩]

def ins : sProp 𝕄 :=
  iprop((arg0.view.loc (c : Thread nD τ) ↦[arg0.view.set]{fullShare} g0) ∗ (arg1.view.loc (c : Thread nD τ) ↦[arg1.view.set]{fullShare} g1)
    ∗ (arg2.view.loc (c : Thread nD τ) ↦[arg2.view.set]{fullShare} g2) ∗ (arg3.view.loc (c : Thread nD τ) ↦[arg3.view.set]{fullShare} g3))
def outs (o9 : Buf (Elt F) (arg9.view.loc (c : Thread nD τ))) (o10 : Buf (Elt F) (arg10.view.loc (c : Thread nD τ)))
    (o11 : Buf (Elt F) (arg11.view.loc (c : Thread nD τ))) : sProp 𝕄 :=
  iprop((arg9.view.loc (c : Thread nD τ) ↦[arg9.view.set]{fullShare} o9) ∗ (arg10.view.loc (c : Thread nD τ) ↦[arg10.view.set]{fullShare} o10)
    ∗ (arg11.view.loc (c : Thread nD τ) ↦[arg11.view.set]{fullShare} o11))

abbrev bodyG : Prog (TpuEff nD τ sig (Elt F) Λ₀ .tc) PUnit :=
  cc0__body (F := F) arg0 harg0 arg1 harg1 arg2 harg2 arg3 harg3 hWG (Memref.isWhole_whole _) hBG (Memref.isWhole_whole _) hWU (Memref.isWhole_whole _)
    hBU (Memref.isWhole_whole _) hWO (Memref.isWhole_whole _) arg9 harg9 arg10 harg10 arg11 harg11 rWG (Memref.isWhole_whole _) cc0_scoped1
    rBG (Memref.isWhole_whole _) cc0_scoped3 rWU (Memref.isWhole_whole _) cc0_scoped5 rBU (Memref.isWhole_whole _) cc0_scoped7
    rWO (Memref.isWhole_whole _) cc0_scoped9

abbrev init0 : BitVec 32 × BitVec 32 × BitVec 32 × BitVec 32 × BitVec 32 × BitVec 32 × BitVec 32 × BitVec 32 × BitVec 32 × BitVec 32 × BitVec 32 :=
  (1#32, 0#32, 1#32, 0#32, 1#32, 0#32, 1#32, 0#32, 1#32, 0#32, 0#32)

/-- Into the loop. -/
theorem loop_enter (v43 : FVec F S2048x1 .f32) (v49 : FVec F S2048x1 .f32) (v71 : FVec F S2048x1024 .bf16) (a b : BitVec 32)
    (o0 : Buf (Elt F) (arg9.view.loc (c : Thread nD τ))) (W) :
    iprop(oP c arg9 o0 ∗ owes (c : Thread nD τ) 0 W
      ∗ (bigSep (Ring.homeSet 1 0) (homeP c (blkW hWG) (fun _ => XWG)) ∗ (∃ f, flightP c (slotW rWG) (blkW hWG) cc0_scoped1 32768 (fun _ => XWG) (Ring.sl 2 0) (Ring.bk 11 0) f) ∗ freeP c (slotW rWG) cc0_scoped1 (Ring.sl 2 1))
      ∗ (bigSep (Ring.homeSet 1 0) (homeP c (blkB hBG) (fun _ => XBG)) ∗ (∃ f, flightP c (slotB rBG) (blkB hBG) cc0_scoped3 32 (fun _ => XBG) (Ring.sl 2 0) (Ring.bk 11 0) f) ∗ freeP c (slotB rBG) cc0_scoped3 (Ring.sl 2 1))
      ∗ (bigSep (Ring.homeSet 1 0) (homeP c (blkW hWU) (fun _ => XWU)) ∗ (∃ f, flightP c (slotW rWU) (blkW hWU) cc0_scoped5 32768 (fun _ => XWU) (Ring.sl 2 0) (Ring.bk 11 0) f) ∗ freeP c (slotW rWU) cc0_scoped5 (Ring.sl 2 1))
      ∗ (bigSep (Ring.homeSet 1 0) (homeP c (blkB hBU) (fun _ => XBU)) ∗ (∃ f, flightP c (slotB rBU) (blkB hBU) cc0_scoped7 32 (fun _ => XBU) (Ring.sl 2 0) (Ring.bk 11 0) f) ∗ freeP c (slotB rBU) cc0_scoped7 (Ring.sl 2 1))
      ∗ (bigSep (Ring.homeSet 1 0) (homeP c (blkO hWO) (fun _ => XWO)) ∗ (∃ f, flightP c (slotO rWO) (blkO hWO) cc0_scoped9 32768 (fun _ => XWO) (Ring.sl 2 0) (Ring.bk 11 0) f) ∗ freeP c (slotO rWO) cc0_scoped9 (Ring.sl 2 1)))
    ⊢ (loopInv c XWG XBG XWU XBU XWO arg0 harg0 arg1 harg1 arg2 harg2 arg3 harg3 arg9 harg9 arg10 harg10 arg11 harg11 v43 v49 v71 a b o0 init0).inv 0 init0 := by
  show _ ⊢ iprop(⌜init0 = accAt 0⌝ ∗ resAt c XWG XBG XWU XBU XWO arg9 0 o0)
  unfold resAt ringWG ringBG ringWU ringBU ringWO
  rw [ring_zero c (slotW rWG) (blkW hWG) cc0_scoped1 32768 (fun _ => XWG), ring_zero c (slotB rBG) (blkB hBG) cc0_scoped3 32 (fun _ => XBG), ring_zero c (slotW rWU) (blkW hWU) cc0_scoped5 32768 (fun _ => XWU), ring_zero c (slotB rBU) (blkB hBU) cc0_scoped7 32 (fun _ => XBU), ring_zero c (slotO rWO) (blkO hWO) cc0_scoped9 32768 (fun _ => XWO)]
  iintro ⟨HO, HW, H⟩
  isplitr
  · ipureintro; rfl
  isplitl [HO]; · iexact HO
  isplitl [HW]; · iexists _; iexact HW
  iexact H
/-- Out of it. -/
theorem loop_exit (v43 : FVec F S2048x1 .f32) (v49 : FVec F S2048x1 .f32) (v71 : FVec F S2048x1024 .bf16) (a b : BitVec 32)
    (o0 : Buf (Elt F) (arg9.view.loc (c : Thread nD τ))) (acc) :
    (loopInv c XWG XBG XWU XBU XWO arg0 harg0 arg1 harg1 arg2 harg2 arg3 harg3 arg9 harg9 arg10 harg10 arg11 harg11 v43 v49 v71 a b o0 init0).inv k0_t1_loop.trips acc
    ⊢ iprop(oP c arg9 (oAcc c XWG XBG XWU XBU XWO arg9 v43 v49 v71 o0 11) ∗ (∃ W, owes (c : Thread nD τ) 0 W) ∗ rest c XWG XBG XWU XBU XWO) := by
  rw [show k0_t1_loop.trips = 11 from by decide]
  show iprop(⌜acc = accAt 11⌝ ∗ resAt c XWG XBG XWU XBU XWO arg9 11 (oAcc c XWG XBG XWU XBU XWO arg9 v43 v49 v71 o0 11)) ⊢ _
  unfold resAt ringWG ringBG ringWU ringBU ringWO rest
  iintro ⟨%e, HO, HW, H1, H2, H3, H4, H5⟩
  isplitl [HO]; · iexact HO
  isplitl [HW]; · iexact HW
  isplitl [H1]; · iapply ring_done; iexact H1
  isplitl [H2]; · iapply ring_done; iexact H2
  isplitl [H3]; · iapply ring_done; iexact H3
  isplitl [H4]; · iapply ring_done; iexact H4
  iapply ring_done; iexact H5

set_option maxHeartbeats 1000000 in
/-- The body. -/
theorem bodyRun (o9 : Buf (Elt F) (arg9.view.loc (c : Thread nD τ))) (o10 : Buf (Elt F) (arg10.view.loc (c : Thread nD τ)))
    (o11 : Buf (Elt F) (arg11.view.loc (c : Thread nD τ))) (W) (Q : PUnit → sProp 𝕄) :
    iprop((ins c arg0 arg1 arg2 arg3 g0 g1 g2 g3 ∗ outs c arg9 arg10 arg11 o9 o10 o11 ∗ owes (c : Thread nD τ) 0 W ∗ rest c XWG XBG XWU XBU XWO)
      ∗ ((ins c arg0 arg1 arg2 arg3 g0 g1 g2 g3
          ∗ outs c arg9 arg10 arg11 (outBuf c XWG XBG XWU XBU XWO arg0 arg1 arg2 arg3 arg9 g0 g1 g2 g3) (useBuf c arg0 arg1 arg10 g0 g1) (lossBuf c arg0 arg1 arg11 g0 g1)
          ∗ (∃ W, owes (c : Thread nD τ) 0 W) ∗ rest c XWG XBG XWU XBU XWO) -∗ Q ⟨⟩))
      ⊢ wp frame (wpE (defs₀ (F := F)) 𝒱₀ (c : Thread nD τ) none) Set.univ
        (bodyG arg0 harg0 arg1 harg1 arg2 harg2 arg3 harg3 arg9 harg9 arg10 harg10 arg11 harg11) Q := by
  unfold ins outs
  conv_lhs => arg 1; unfold rest
  rw [ring_rest c (slotW rWG) (blkW hWG) cc0_scoped1 (fun _ => XWG), ring_rest c (slotB rBG) (blkB hBG) cc0_scoped3 (fun _ => XBG),
    ring_rest c (slotW rWU) (blkW hWU) cc0_scoped5 (fun _ => XWU), ring_rest c (slotB rBU) (blkB hBU) cc0_scoped7 (fun _ => XBU),
    ring_rest c (slotO rWO) (blkO hWO) cc0_scoped9 (fun _ => XWO)]
  iintro ⟨⟨⟨H0, H1, H2, H3⟩, ⟨HO, HU, HL⟩, HW, ⟨⟨Hh1, Hr1⟩, ⟨⟨%f1, Hs1⟩, Hc1⟩, Ht1⟩, ⟨⟨Hh2, Hr2⟩, ⟨⟨%f2, Hs2⟩, Hc2⟩, Ht2⟩,
    ⟨⟨Hh3, Hr3⟩, ⟨⟨%f3, Hs3⟩, Hc3⟩, Ht3⟩, ⟨⟨Hh4, Hr4⟩, ⟨⟨%f4, Hs4⟩, Hc4⟩, Ht4⟩, ⟨⟨Hh5, Hr5⟩, ⟨⟨%f5, Hs5⟩, Hc5⟩, Ht5⟩⟩, Hk⟩
  sl_exec
  ihave HI := (loop_enter c XWG XBG XWU XBU XWO arg0 harg0 arg1 harg1 arg2 harg2 arg3 harg3 arg9 harg9 arg10 harg10 arg11 harg11 (cOne (at0 c arg0 g0) (at1 c arg1 g1)) (cTwo (at0 c arg0 g0) (at1 c arg1 g1)) (xScaled (at0 c arg0 g0) (at2 c arg2 g2)) 1#32 1#32 (oInit c arg3 arg9 g3) W) $$ [HO HW Hr1 Hc1 Ht1 Hr2 Hc2 Ht2 Hr3 Hc3 Ht3 Hr4 Hc4 Ht4 Hr5 Hc5 Ht5]
  · isplitl [HO]; · iexact HO
    isplitl [HW]; · iexact HW
    isplitl [Hr1 Hc1 Ht1]
    · isplitl [Hr1]; · iexact Hr1
      isplitl [Hc1]; · iexists f1; iexact Hc1
      iexact Ht1
    isplitl [Hr2 Hc2 Ht2]
    · isplitl [Hr2]; · iexact Hr2
      isplitl [Hc2]; · iexists f2; iexact Hc2
      iexact Ht2
    isplitl [Hr3 Hc3 Ht3]
    · isplitl [Hr3]; · iexact Hr3
      isplitl [Hc3]; · iexists f3; iexact Hc3
      iexact Ht3
    isplitl [Hr4 Hc4 Ht4]
    · isplitl [Hr4]; · iexact Hr4
      isplitl [Hc4]; · iexists f4; iexact Hc4
      iexact Ht4
    isplitl [Hr5]; · iexact Hr5
    isplitl [Hc5]; · iexists f5; iexact Hc5
    iexact Ht5
  iapply (exec_loop _ _ _ _ _ _ k0_t1_ok _ _ (loopInv c XWG XBG XWU XBU XWO arg0 harg0 arg1 harg1 arg2 harg2 arg3 harg3 arg9 harg9 arg10 harg10 arg11 harg11 (cOne (at0 c arg0 g0) (at1 c arg1 g1)) (cTwo (at0 c arg0 g0) (at1 c arg1 g1)) (xScaled (at0 c arg0 g0) (at2 c arg2 g2)) 1#32 1#32 (oInit c arg3 arg9 g3) init0)) $$ HI
  iintro %acc HI
  ihave HE := (loop_exit c XWG XBG XWU XBU XWO arg0 harg0 arg1 harg1 arg2 harg2 arg3 harg3 arg9 harg9 arg10 harg10 arg11 harg11 (cOne (at0 c arg0 g0) (at1 c arg1 g1)) (cTwo (at0 c arg0 g0) (at1 c arg1 g1)) (xScaled (at0 c arg0 g0) (at2 c arg2 g2)) 1#32 1#32 (oInit c arg3 arg9 g3) acc) $$ HI
  icases HE with ⟨HO, HW, HR⟩
  sl_exec
  sl_step
  iapply Hk
  isplitl [H0 H1 H2 H3]
  · isplitl [H0]; · iexact H0
    isplitl [H1]; · iexact H1
    isplitl [H2]; · iexact H2
    iexact H3
  isplitl [HO HU HL]
  · isplitl [HO]; · iexact HO
    isplitl [HU]; · iexact HU
    iexact HL
  isplitl [HW]; · iexact HW
  iexact HR

end Body

end Cert.Proof.Pipe

end
-- ==== Proof.Launch.lean ====
/-
  The launch's resources as the body holds them: each operand left in HBM is its eleven blocks, each ring its two slots and
  their semaphores.
-/
module

public import proofs.«01_k».proof.Proof.Body
public import Idealize.ShloMosaic.Lib.Pipeline.FrameBody
public import Idealize.ShloMosaic.Lib.Pipeline.FrameSuffix

@[expose] public section

set_option maxRecDepth 16384

noncomputable section

namespace Cert.Proof.Pipe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Element sets -/

abbrev BW (b : Fin 11) : Finset S1024x2816.Idx := (Rect.unit (s := S1024x2816) (colOff b) S1024x256.size (colOffW_inb b)).set
theorem mem_BW (b : Fin 11) (y : S1024x2816.Idx) : y ∈ BW b ↔ (y 1).val / 256 = b.val := by
  rw [Rect.mem_set_unit]
  have h0 : (y 0).val < 1024 := (y 0).isLt
  have h1 : (y 1).val < 2816 := (y 1).isLt
  constructor
  · intro H; have a0 : 256 * b.val ≤ (y 1).val ∧ (y 1).val < 256 * b.val + 256 := H 1; omega
  · intro H i; fin_cases i
    · show 0 ≤ (y 0).val ∧ (y 0).val < 0 + 1024; omega
    · show 256 * b.val ≤ (y 1).val ∧ (y 1).val < 256 * b.val + 256; omega
theorem BW_disjoint : ∀ b b' : Fin 11, b ≠ b' → Disjoint (BW b) (BW b') := by
  intro b b' hne; rw [Finset.disjoint_left]; intro y hy hy'; rw [mem_BW] at hy hy'; exact hne (Fin.ext (hy.symm.trans hy'))
theorem BW_cover : (Finset.univ : Finset (Fin 11)).biUnion BW = Finset.univ := by
  ext y; simp only [Finset.mem_biUnion, Finset.mem_univ, true_and, iff_true]
  have h : (y 1).val < 2816 := (y 1).isLt
  exact ⟨⟨(y 1).val / 256, by omega⟩, by rw [mem_BW]⟩
abbrev BB (b : Fin 11) : Finset S1x2816.Idx := (Rect.unit (s := S1x2816) (colOff b) S1x256.size (colOffB_inb b)).set
theorem mem_BB (b : Fin 11) (y : S1x2816.Idx) : y ∈ BB b ↔ (y 1).val / 256 = b.val := by
  rw [Rect.mem_set_unit]
  have h0 : (y 0).val < 1 := (y 0).isLt
  have h1 : (y 1).val < 2816 := (y 1).isLt
  constructor
  · intro H; have a0 : 256 * b.val ≤ (y 1).val ∧ (y 1).val < 256 * b.val + 256 := H 1; omega
  · intro H i; fin_cases i
    · show 0 ≤ (y 0).val ∧ (y 0).val < 0 + 1; omega
    · show 256 * b.val ≤ (y 1).val ∧ (y 1).val < 256 * b.val + 256; omega
theorem BB_disjoint : ∀ b b' : Fin 11, b ≠ b' → Disjoint (BB b) (BB b') := by
  intro b b' hne; rw [Finset.disjoint_left]; intro y hy hy'; rw [mem_BB] at hy hy'; exact hne (Fin.ext (hy.symm.trans hy'))
theorem BB_cover : (Finset.univ : Finset (Fin 11)).biUnion BB = Finset.univ := by
  ext y; simp only [Finset.mem_biUnion, Finset.mem_univ, true_and, iff_true]
  have h : (y 1).val < 2816 := (y 1).isLt
  exact ⟨⟨(y 1).val / 256, by omega⟩, by rw [mem_BB]⟩
abbrev BO (b : Fin 11) : Finset S2816x1024.Idx := (Rect.unit (s := S2816x1024) (rowOff b) S256x1024.size (rowOffO_inb b)).set
theorem mem_BO (b : Fin 11) (y : S2816x1024.Idx) : y ∈ BO b ↔ (y 0).val / 256 = b.val := by
  rw [Rect.mem_set_unit]
  have h0 : (y 0).val < 2816 := (y 0).isLt
  have h1 : (y 1).val < 1024 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 1024; omega
theorem BO_disjoint : ∀ b b' : Fin 11, b ≠ b' → Disjoint (BO b) (BO b') := by
  intro b b' hne; rw [Finset.disjoint_left]; intro y hy hy'; rw [mem_BO] at hy hy'; exact hne (Fin.ext (hy.symm.trans hy'))
theorem BO_cover : (Finset.univ : Finset (Fin 11)).biUnion BO = Finset.univ := by
  ext y; simp only [Finset.mem_biUnion, Finset.mem_univ, true_and, iff_true]
  have h : (y 0).val < 2816 := (y 0).isLt
  exact ⟨⟨(y 0).val / 256, by omega⟩, by rw [mem_BO]⟩
abbrev LW (s : Fin 2) : Finset S2x1024x256.Idx := (Rect.unit (s := S2x1024x256) (slotOff s) S1x1024x256.size (slotOffW_inb s)).set
theorem mem_LW (s : Fin 2) (y : S2x1024x256.Idx) : y ∈ LW s ↔ (y 0).val = s.val := by
  rw [Rect.mem_set_unit]
  have h1 : (y 1).val < 1024 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 256; omega
theorem LW_disjoint : ∀ s s' : Fin 2, s ≠ s' → Disjoint (LW s) (LW s') := by
  intro s s' hne; rw [Finset.disjoint_left]; intro y hy hy'; rw [mem_LW] at hy hy'; exact hne (Fin.ext (hy.symm.trans hy'))
theorem LW_cover : (Finset.univ : Finset (Fin 2)).biUnion LW = Finset.univ := by
  ext y; simp only [Finset.mem_biUnion, Finset.mem_univ, true_and, iff_true]
  have h : (y 0).val < 2 := (y 0).isLt
  exact ⟨⟨(y 0).val, h⟩, by rw [mem_LW]⟩
abbrev LB (s : Fin 2) : Finset S2x1x256.Idx := (Rect.unit (s := S2x1x256) (slotOff s) S1x1x256.size (slotOffB_inb s)).set
theorem mem_LB (s : Fin 2) (y : S2x1x256.Idx) : y ∈ LB s ↔ (y 0).val = s.val := by
  rw [Rect.mem_set_unit]
  have h1 : (y 1).val < 1 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 256; omega
theorem LB_disjoint : ∀ s s' : Fin 2, s ≠ s' → Disjoint (LB s) (LB s') := by
  intro s s' hne; rw [Finset.disjoint_left]; intro y hy hy'; rw [mem_LB] at hy hy'; exact hne (Fin.ext (hy.symm.trans hy'))
theorem LB_cover : (Finset.univ : Finset (Fin 2)).biUnion LB = Finset.univ := by
  ext y; simp only [Finset.mem_biUnion, Finset.mem_univ, true_and, iff_true]
  have h : (y 0).val < 2 := (y 0).isLt
  exact ⟨⟨(y 0).val, h⟩, by rw [mem_LB]⟩
abbrev LO (s : Fin 2) : Finset S2x256x1024.Idx := (Rect.unit (s := S2x256x1024) (slotOff s) S1x256x1024.size (slotOffO_inb s)).set
theorem mem_LO (s : Fin 2) (y : S2x256x1024.Idx) : y ∈ LO s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 1024; omega
theorem LO_disjoint : ∀ s s' : Fin 2, s ≠ s' → Disjoint (LO s) (LO s') := by
  intro s s' hne; rw [Finset.disjoint_left]; intro y hy hy'; rw [mem_LO] at hy hy'; exact hne (Fin.ext (hy.symm.trans hy'))
theorem LO_cover : (Finset.univ : Finset (Fin 2)).biUnion LO = Finset.univ := by
  ext y; simp only [Finset.mem_biUnion, Finset.mem_univ, true_and, iff_true]
  have h : (y 0).val < 2 := (y 0).isLt
  exact ⟨⟨(y 0).val, h⟩, by rw [mem_LO]⟩

/-- Equal assertions, the one from the other. -/
theorem to_of_eq {P Q : sProp 𝕄} (h : P = Q) : P ⊢ Q := by rw [h]

theorem bigSep_two (Φ : Fin 2 → sProp 𝕄) : bigSep Finset.univ Φ = iprop(Φ 0 ∗ Φ 1) :=
  bigSep_univ_eq_bigSepL [(0 : Fin 2), (1 : Fin 2)] (by decide) (by decide) Φ

/-! ## Each operand is its blocks, each ring its slots -/

theorem homesWG (c : Dev nD) (X : Buf (Elt F) ((c : Thread nD τ).loc main_arg3)) :
    (((c : Thread nD τ).loc main_arg3) ↦{fullShare} X : sProp 𝕄) = bigSep Finset.univ (homeP c (blkW hWG) (fun _ => X)) := by
  rw [Ring.pointsTo_blocks (ℓ := (c : Thread nD τ).loc main_arg3) BW BW_disjoint BW_cover]
  exact bigSep_congr fun b _ => congrArg (fun S => (((c : Thread nD τ).loc main_arg3) ↦[S]{fullShare} X : sProp 𝕄)) (View.set_slice_whole _ _).symm
theorem slotWG (c : Dev nD) (s : Fin 2) (f) : slotP c (slotW rWG) s f = (((c : Thread nD τ).loc cc0_scoped0) ↦[LW s]{fullShare} f : sProp 𝕄) :=
  congrArg (fun S => (((c : Thread nD τ).loc cc0_scoped0) ↦[S]{fullShare} f : sProp 𝕄)) ((View.set_reshape _ _).trans (View.set_slice_whole _ _))
theorem splitWG (c : Dev nD) :
    iprop(∃ f : Buf (Elt F) ((c : Thread nD τ).loc cc0_scoped0), ((c : Thread nD τ).loc cc0_scoped0) ↦{fullShare} f)
      ⊢ (iprop((∃ f, slotP c (slotW rWG) 0 f) ∗ ∃ f, slotP c (slotW rWG) 1 f) : sProp 𝕄) := by
  iintro ⟨%f, H⟩
  ihave H2 := (to_of_eq ((Ring.pointsTo_blocks (Ix := Unit) (Name := ℕ) (U := UU nD τ) (Lvl := ℕ) (q := fullShare) (ℓ := (c : Thread nD τ).loc cc0_scoped0) LW LW_disjoint LW_cover f).trans (bigSep_two _))) $$ H
  icases H2 with ⟨H0, H1⟩
  isplitl [H0]
  · iexists f; iapply (to_of_eq (slotWG c 0 f).symm); iexact H0
  · iexists f; iapply (to_of_eq (slotWG c 1 f).symm); iexact H1
theorem joinWG (c : Dev nD) :
    iprop((∃ f, slotP c (slotW rWG) 0 f) ∗ ∃ f, slotP c (slotW rWG) 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) LW LW_disjoint LW_cover f0)
  irw [bigSep_two]
  isplitl [H0]
  · iexists f0; iapply (to_of_eq (slotWG c 0 f0)); iexact H0
  · iexists f1; iapply (to_of_eq (slotWG c 1 f1)); iexact H1
theorem homesBG (c : Dev nD) (X : Buf (Elt F) ((c : Thread nD τ).loc main_call0_v2)) :
    (((c : Thread nD τ).loc main_call0_v2) ↦{fullShare} X : sProp 𝕄) = bigSep Finset.univ (homeP c (blkB hBG) (fun _ => X)) := by
  rw [Ring.pointsTo_blocks (ℓ := (c : Thread nD τ).loc main_call0_v2) BB BB_disjoint BB_cover]
  exact bigSep_congr fun b _ => congrArg (fun S => (((c : Thread nD τ).loc main_call0_v2) ↦[S]{fullShare} X : sProp 𝕄)) (View.set_slice_whole _ _).symm
theorem slotBG (c : Dev nD) (s : Fin 2) (f) : slotP c (slotB rBG) s f = (((c : Thread nD τ).loc cc0_scoped2) ↦[LB s]{fullShare} f : sProp 𝕄) :=
  congrArg (fun S => (((c : Thread nD τ).loc cc0_scoped2) ↦[S]{fullShare} f : sProp 𝕄)) ((View.set_reshape _ _).trans (View.set_slice_whole _ _))
theorem splitBG (c : Dev nD) :
    iprop(∃ f : Buf (Elt F) ((c : Thread nD τ).loc cc0_scoped2), ((c : Thread nD τ).loc cc0_scoped2) ↦{fullShare} f)
      ⊢ (iprop((∃ f, slotP c (slotB rBG) 0 f) ∗ ∃ f, slotP c (slotB rBG) 1 f) : sProp 𝕄) := by
  iintro ⟨%f, H⟩
  ihave H2 := (to_of_eq ((Ring.pointsTo_blocks (Ix := Unit) (Name := ℕ) (U := UU nD τ) (Lvl := ℕ) (q := fullShare) (ℓ := (c : Thread nD τ).loc cc0_scoped2) LB LB_disjoint LB_cover f).trans (bigSep_two _))) $$ H
  icases H2 with ⟨H0, H1⟩
  isplitl [H0]
  · iexists f; iapply (to_of_eq (slotBG c 0 f).symm); iexact H0
  · iexists f; iapply (to_of_eq (slotBG c 1 f).symm); iexact H1
theorem joinBG (c : Dev nD) :
    iprop((∃ f, slotP c (slotB rBG) 0 f) ∗ ∃ f, slotP c (slotB rBG) 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) LB LB_disjoint LB_cover f0)
  irw [bigSep_two]
  isplitl [H0]
  · iexists f0; iapply (to_of_eq (slotBG c 0 f0)); iexact H0
  · iexists f1; iapply (to_of_eq (slotBG c 1 f1)); iexact H1
theorem homesWU (c : Dev nD) (X : Buf (Elt F) ((c : Thread nD τ).loc main_arg5)) :
    (((c : Thread nD τ).loc main_arg5) ↦{fullShare} X : sProp 𝕄) = bigSep Finset.univ (homeP c (blkW hWU) (fun _ => X)) := by
  rw [Ring.pointsTo_blocks (ℓ := (c : Thread nD τ).loc main_arg5) BW BW_disjoint BW_cover]
  exact bigSep_congr fun b _ => congrArg (fun S => (((c : Thread nD τ).loc main_arg5) ↦[S]{fullShare} X : sProp 𝕄)) (View.set_slice_whole _ _).symm
theorem slotWU (c : Dev nD) (s : Fin 2) (f) : slotP c (slotW rWU) s f = (((c : Thread nD τ).loc cc0_scoped4) ↦[LW s]{fullShare} f : sProp 𝕄) :=
  congrArg (fun S => (((c : Thread nD τ).loc cc0_scoped4) ↦[S]{fullShare} f : sProp 𝕄)) ((View.set_reshape _ _).trans (View.set_slice_whole _ _))
theorem splitWU (c : Dev nD) :
    iprop(∃ f : Buf (Elt F) ((c : Thread nD τ).loc cc0_scoped4), ((c : Thread nD τ).loc cc0_scoped4) ↦{fullShare} f)
      ⊢ (iprop((∃ f, slotP c (slotW rWU) 0 f) ∗ ∃ f, slotP c (slotW rWU) 1 f) : sProp 𝕄) := by
  iintro ⟨%f, H⟩
  ihave H2 := (to_of_eq ((Ring.pointsTo_blocks (Ix := Unit) (Name := ℕ) (U := UU nD τ) (Lvl := ℕ) (q := fullShare) (ℓ := (c : Thread nD τ).loc cc0_scoped4) LW LW_disjoint LW_cover f).trans (bigSep_two _))) $$ H
  icases H2 with ⟨H0, H1⟩
  isplitl [H0]
  · iexists f; iapply (to_of_eq (slotWU c 0 f).symm); iexact H0
  · iexists f; iapply (to_of_eq (slotWU c 1 f).symm); iexact H1
theorem joinWU (c : Dev nD) :
    iprop((∃ f, slotP c (slotW rWU) 0 f) ∗ ∃ f, slotP c (slotW rWU) 1 f)
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) LW LW_disjoint LW_cover f0)
  irw [bigSep_two]
  isplitl [H0]
  · iexists f0; iapply (to_of_eq (slotWU c 0 f0)); iexact H0
  · iexists f1; iapply (to_of_eq (slotWU c 1 f1)); iexact H1
theorem homesBU (c : Dev nD) (X : Buf (Elt F) ((c : Thread nD τ).loc main_call0_v3)) :
    (((c : Thread nD τ).loc main_call0_v3) ↦{fullShare} X : sProp 𝕄) = bigSep Finset.univ (homeP c (blkB hBU) (fun _ => X)) := by
  rw [Ring.pointsTo_blocks (ℓ := (c : Thread nD τ).loc main_call0_v3) BB BB_disjoint BB_cover]
  exact bigSep_congr fun b _ => congrArg (fun S => (((c : Thread nD τ).loc main_call0_v3) ↦[S]{fullShare} X : sProp 𝕄)) (View.set_slice_whole _ _).symm
theorem slotBU (c : Dev nD) (s : Fin 2) (f) : slotP c (slotB rBU) s f = (((c : Thread nD τ).loc cc0_scoped6) ↦[LB s]{fullShare} f : sProp 𝕄) :=
  congrArg (fun S => (((c : Thread nD τ).loc cc0_scoped6) ↦[S]{fullShare} f : sProp 𝕄)) ((View.set_reshape _ _).trans (View.set_slice_whole _ _))
theorem splitBU (c : Dev nD) :
    iprop(∃ f : Buf (Elt F) ((c : Thread nD τ).loc cc0_scoped6), ((c : Thread nD τ).loc cc0_scoped6) ↦{fullShare} f)
      ⊢ (iprop((∃ f, slotP c (slotB rBU) 0 f) ∗ ∃ f, slotP c (slotB rBU) 1 f) : sProp 𝕄) := by
  iintro ⟨%f, H⟩
  ihave H2 := (to_of_eq ((Ring.pointsTo_blocks (Ix := Unit) (Name := ℕ) (U := UU nD τ) (Lvl := ℕ) (q := fullShare) (ℓ := (c : Thread nD τ).loc cc0_scoped6) LB LB_disjoint LB_cover f).trans (bigSep_two _))) $$ H
  icases H2 with ⟨H0, H1⟩
  isplitl [H0]
  · iexists f; iapply (to_of_eq (slotBU c 0 f).symm); iexact H0
  · iexists f; iapply (to_of_eq (slotBU c 1 f).symm); iexact H1
theorem joinBU (c : Dev nD) :
    iprop((∃ f, slotP c (slotB rBU) 0 f) ∗ ∃ f, slotP c (slotB rBU) 1 f)
      ⊢ (iprop(∃ f : Buf (Elt F) ((c : Thread nD τ).loc cc0_scoped6), ((c : Thread nD τ).loc cc0_scoped6) ↦{fullShare} f) : sProp 𝕄) := by
  iintro ⟨⟨%f0, H0⟩, ⟨%f1, H1⟩⟩
  iapply (Ring.pointsTo_blocks_join_exists (ℓ := (c : Thread nD τ).loc cc0_scoped6) LB LB_disjoint LB_cover f0)
  irw [bigSep_two]
  isplitl [H0]
  · iexists f0; iapply (to_of_eq (slotBU c 0 f0)); iexact H0
  · iexists f1; iapply (to_of_eq (slotBU c 1 f1)); iexact H1
theorem homesWO (c : Dev nD) (X : Buf (Elt F) ((c : Thread nD τ).loc main_arg7)) :
    (((c : Thread nD τ).loc main_arg7) ↦{fullShare} X : sProp 𝕄) = bigSep Finset.univ (homeP c (blkO hWO) (fun _ => X)) := by
  rw [Ring.pointsTo_blocks (ℓ := (c : Thread nD τ).loc main_arg7) BO BO_disjoint BO_cover]
  exact bigSep_congr fun b _ => congrArg (fun S => (((c : Thread nD τ).loc main_arg7) ↦[S]{fullShare} X : sProp 𝕄)) (View.set_slice_whole _ _).symm
theorem slotWO (c : Dev nD) (s : Fin 2) (f) : slotP c (slotO rWO) s f = (((c : Thread nD τ).loc cc0_scoped8) ↦[LO s]{fullShare} f : sProp 𝕄) :=
  congrArg (fun S => (((c : Thread nD τ).loc cc0_scoped8) ↦[S]{fullShare} f : sProp 𝕄)) ((View.set_reshape _ _).trans (View.set_slice_whole _ _))
theorem splitWO (c : Dev nD) :
    iprop(∃ f : Buf (Elt F) ((c : Thread nD τ).loc cc0_scoped8), ((c : Thread nD τ).loc cc0_scoped8) ↦{fullShare} f)
      ⊢ (iprop((∃ f, slotP c (slotO rWO) 0 f) ∗ ∃ f, slotP c (slotO rWO) 1 f) : sProp 𝕄) := by
  iintro ⟨%f, H⟩
  ihave H2 := (to_of_eq ((Ring.pointsTo_blocks (Ix := Unit) (Name := ℕ) (U := UU nD τ) (Lvl := ℕ) (q := fullShare) (ℓ := (c : Thread nD τ).loc cc0_scoped8) LO LO_disjoint LO_cover f).trans (bigSep_two _))) $$ H
  icases H2 with ⟨H0, H1⟩
  isplitl [H0]
  · iexists f; iapply (to_of_eq (slotWO c 0 f).symm); iexact H0
  · iexists f; iapply (to_of_eq (slotWO c 1 f).symm); iexact H1
theorem joinWO (c : Dev nD) :
    iprop((∃ f, slotP c (slotO rWO) 0 f) ∗ ∃ f, slotP c (slotO rWO) 1 f)
      ⊢ (iprop(∃ f : Buf (Elt F) ((c : Thread nD τ).loc cc0_scoped8), ((c : Thread nD τ).loc cc0_scoped8) ↦{fullShare} f) : sProp 𝕄) := by
  iintro ⟨⟨%f0, H0⟩, ⟨%f1, H1⟩⟩
  iapply (Ring.pointsTo_blocks_join_exists (ℓ := (c : Thread nD τ).loc cc0_scoped8) LO LO_disjoint LO_cover f0)
  irw [bigSep_two]
  isplitl [H0]
  · iexists f0; iapply (to_of_eq (slotWO c 0 f0)); iexact H0
  · iexists f1; iapply (to_of_eq (slotWO c 1 f1)); iexact H1

/-! ## The body's own resources, given and handed back -/

abbrev osem : Fin 10 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16] : Fin 10 → SemLoc sig) j
theorem ownSemFacts : Pipeline.OwnSemFacts spec0 osem := by decide
theorem ownSems_eq (c : Dev nD) :
    (Pipeline.ownSems0 (Ix := Unit) (Name := ℕ) (U := UU nD τ) (Lvl := ℕ) (Val := Elt F) (τ := τ) osem c : sProp 𝕄)
      = iprop(cellP c cc0_scoped1 0 ∗ cellP c cc0_scoped1 1 ∗ cellP c cc0_scoped3 0 ∗ cellP c cc0_scoped3 1 ∗ cellP c cc0_scoped5 0 ∗ cellP c cc0_scoped5 1
          ∗ cellP c cc0_scoped7 0 ∗ cellP c cc0_scoped7 1 ∗ cellP c cc0_scoped9 0 ∗ cellP c cc0_scoped9 1) := by
  rw [Pipeline.ownSems0_eq_of_list c osem [0, 1, 2, 3, 4, 5, 6, 7, 8, 9] (by decide) (by decide)]; rfl
/-- The operands the body's transfers read. -/
def HB : Finset (Ref sig .tc) := {main_arg3, main_call0_v2, main_arg5, main_call0_v3, main_arg7}
theorem HB_sub : HB ⊆ Pipeline.restRefs sig spec0 := by decide
theorem hbmPts_eq (c : Dev nD) (V : (b : Ref sig .tc) → Buf (Elt F) ((c : Thread nD τ).loc b)) :
    (bigSep HB (fun b => ((c : Thread nD τ).loc b) ↦{fullShare} V b) : sProp 𝕄)
      = iprop((((c : Thread nD τ).loc main_arg3) ↦{fullShare} V main_arg3) ∗ (((c : Thread nD τ).loc main_call0_v2) ↦{fullShare} V main_call0_v2)
          ∗ (((c : Thread nD τ).loc main_arg5) ↦{fullShare} V main_arg5) ∗ (((c : Thread nD τ).loc main_call0_v3) ↦{fullShare} V main_call0_v3)
          ∗ (((c : Thread nD τ).loc main_arg7) ↦{fullShare} V main_arg7)) := by
  rw [BI.bigSep_eq_bigSepL_of_eq [main_arg3, main_call0_v2, main_arg5, main_call0_v3, main_arg7] (by decide) (by decide)]; rfl

abbrev restAt (c : Dev nD) (V : (b : Ref sig .tc) → Buf (Elt F) ((c : Thread nD τ).loc b)) : sProp 𝕄 :=
  rest c (V main_arg3) (V main_call0_v2) (V main_arg5) (V main_call0_v3) (V main_arg7)

theorem own_split (c : Dev nD) (V : (c : Dev nD) → (b : Ref sig .tc) → Buf (Elt F) ((c : Thread nD τ).loc b)) :
    (Pipeline.ΦD osem spec0 HB V c : sProp 𝕄) ⊢ iprop((∃ r, prngReg c r) ∗ restAt c (V c)) := by
  rw [Pipeline.ΦD_eq, scopedRest0_eq, ownSems_eq, hbmPts_eq, homesWG, homesBG, homesWU, homesBU, homesWO]
  unfold restAt rest ringRest freeP
  iintro ⟨⟨HB1, HB2, HB3, HB4, HB5⟩, Hg, ⟨Hc10, Hc11, Hc20, Hc21, Hc30, Hc31, Hc40, Hc41, Hc50, Hc51⟩, ⟨Hh1, Hh2, Hh3, Hh4, Hh5⟩⟩
  ihave HS1 := (splitWG c) $$ HB1
  ihave HS2 := (splitBG c) $$ HB2
  ihave HS3 := (splitWU c) $$ HB3
  ihave HS4 := (splitBU c) $$ HB4
  ihave HS5 := (splitWO c) $$ HB5
  icases HS1 with ⟨HS10, HS11⟩
  icases HS2 with ⟨HS20, HS21⟩
  icases HS3 with ⟨HS30, HS31⟩
  icases HS4 with ⟨HS40, HS41⟩
  icases HS5 with ⟨HS50, HS51⟩
  isplitl [Hg]; · iexact Hg
  isplitl [Hh1 HS10 HS11 Hc10 Hc11]
  · isplitl [Hh1]; · iexact Hh1
    isplitl [HS10 Hc10]
    · isplitl [HS10]; · iexact HS10
      iexact Hc10
    isplitl [HS11]; · iexact HS11
    iexact Hc11
  isplitl [Hh2 HS20 HS21 Hc20 Hc21]
  · isplitl [Hh2]; · iexact Hh2
    isplitl [HS20 Hc20]
    · isplitl [HS20]; · iexact HS20
      iexact Hc20
    isplitl [HS21]; · iexact HS21
    iexact Hc21
  isplitl [Hh3 HS30 HS31 Hc30 Hc31]
  · isplitl [Hh3]; · iexact Hh3
    isplitl [HS30 Hc30]
    · isplitl [HS30]; · iexact HS30
      iexact Hc30
    isplitl [HS31]; · iexact HS31
    iexact Hc31
  isplitl [Hh4 HS40 HS41 Hc40 Hc41]
  · isplitl [Hh4]; · iexact Hh4
    isplitl [HS40 Hc40]
    · isplitl [HS40]; · iexact HS40
      iexact Hc40
    isplitl [HS41]; · iexact HS41
    iexact Hc41
  isplitl [Hh5]; · iexact Hh5
  isplitl [HS50 Hc50]
  · isplitl [HS50]; · iexact HS50
    iexact Hc50
  isplitl [HS51]; · iexact HS51
  iexact Hc51

theorem own_join (c : Dev nD) (V : (c : Dev nD) → (b : Ref sig .tc) → Buf (Elt F) ((c : Thread nD τ).loc b)) :
    iprop((∃ r, prngReg c r) ∗ restAt c (V c)) ⊢ (Pipeline.ΦD osem spec0 HB V c : sProp 𝕄) := by
  rw [Pipeline.ΦD_eq, scopedRest0_eq, ownSems_eq, hbmPts_eq, homesWG, homesBG, homesWU, homesBU, homesWO]
  unfold restAt rest ringRest freeP
  iintro ⟨Hg, ⟨Hh1, ⟨HS10, Hc10⟩, HS11, Hc11⟩, ⟨Hh2, ⟨HS20, Hc20⟩, HS21, Hc21⟩, ⟨Hh3, ⟨HS30, Hc30⟩, HS31, Hc31⟩,
    ⟨Hh4, ⟨HS40, Hc40⟩, HS41, Hc41⟩, ⟨Hh5, ⟨HS50, Hc50⟩, HS51, Hc51⟩⟩
  ihave HB1 := (joinWG c) $$ [HS10 HS11]
  · isplitl [HS10]; · iexact HS10
    iexact HS11
  ihave HB2 := (joinBG c) $$ [HS20 HS21]
  · isplitl [HS20]; · iexact HS20
    iexact HS21
  ihave HB3 := (joinWU c) $$ [HS30 HS31]
  · isplitl [HS30]; · iexact HS30
    iexact HS31
  ihave HB4 := (joinBU c) $$ [HS40 HS41]
  · isplitl [HS40]; · iexact HS40
    iexact HS41
  ihave HB5 := (joinWO c) $$ [HS50 HS51]
  · isplitl [HS50]; · iexact HS50
    iexact HS51
  isplitl [HB1 HB2 HB3 HB4 HB5]
  · isplitl [HB1]; · iexact HB1
    isplitl [HB2]; · iexact HB2
    isplitl [HB3]; · iexact HB3
    isplitl [HB4]; · iexact HB4
    iexact HB5
  isplitl [Hg]; · iexact Hg
  isplitl [Hc10 Hc11 Hc20 Hc21 Hc30 Hc31 Hc40 Hc41 Hc50 Hc51]
  · isplitl [Hc10]; · iexact Hc10
    isplitl [Hc11]; · iexact Hc11
    isplitl [Hc20]; · iexact Hc20
    isplitl [Hc21]; · iexact Hc21
    isplitl [Hc30]; · iexact Hc30
    isplitl [Hc31]; · iexact Hc31
    isplitl [Hc40]; · iexact Hc40
    isplitl [Hc41]; · iexact Hc41
    isplitl [Hc50]; · iexact Hc50
    iexact Hc51
  isplitl [Hh1]; · iexact Hh1
  isplitl [Hh2]; · iexact Hh2
  isplitl [Hh3]; · iexact Hh3
  isplitl [Hh4]; · iexact Hh4
  iexact Hh5

end Cert.Proof.Pipe

end
-- ==== Proof.Run.lean ====
/-
  The kernel's run, for any float operations: what the three results hold, and both frames.
-/
module

public import proofs.«01_k».proof.Proof.Launch
public import proofs.«01_k».proof.Proof.Gen.KernelIdeal.Frame
public import Idealize.ShloMosaic.Lib.VecWindow

@[expose] public section

set_option maxRecDepth 16384

noncomputable section

namespace Cert.Proof.Pipe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## What the body leaves in the results' buffers, as their values -/

section Values

variable (c : Dev nD)
  (XWG : Buf (Elt F) (hWG.view.loc (c : Thread nD τ))) (XBG : Buf (Elt F) (hBG.view.loc (c : Thread nD τ)))
  (XWU : Buf (Elt F) (hWU.view.loc (c : Thread nD τ))) (XBU : Buf (Elt F) (hBU.view.loc (c : Thread nD τ)))
  (XWO : Buf (Elt F) (hWO.view.loc (c : Thread nD τ)))

/-- The output block before trip `k`, from its value at the loop's start. -/
def accVec (v43 : FVec F S2048x1 .f32) (v49 : FVec F S2048x1 .f32) (v71 : FVec F S2048x1024 .bf16) (o : Vec F S2048x1024 .f32) : ℕ → Vec F S2048x1024 .f32
  | 0 => o
  | k + 1 => if h : k < k0_t1_loop.trips then stepVal c XWG XBG XWU XBU XWO v43 v49 v71 ⟨k, h⟩ (accVec v43 v49 v71 o k) else accVec v43 v49 v71 o k

/-- The three results, from the words of the staged operands. -/
def outVec (x : Vec F S2048x1024 .f32) (wr : Vec F S1024x8 .f32) (sc bo : Vec F S1x1024 .f32) : Vec F S2048x1024 .f32 :=
  accVec c XWG XBG XWU XBU XWO (cOne x wr) (cTwo x wr) (xScaled x sc) (k0_pay17 bo) 11
def useVec (x : Vec F S2048x1024 .f32) (wr : Vec F S1024x8 .f32) : Vec F S1x8 .f32 := k0_pay14 (k0_pay6 x wr)
def lossVec (x : Vec F S2048x1024 .f32) (wr : Vec F S1024x8 .f32) : Vec F S1x1 .f32 := k0_pay15 (k0_pay6 x wr)

theorem read_oAcc (arg9 : Memref sig .tc .vmem S2048x1024 .f32) (v43 : FVec F S2048x1 .f32) (v49 : FVec F S2048x1 .f32) (v71 : FVec F S2048x1024 .bf16)
    (o0 : Buf (Elt F) (arg9.view.loc (c : Thread nD τ))) (k : ℕ) :
    arg9.view.read (Elt F) (oAcc c XWG XBG XWU XBU XWO arg9 v43 v49 v71 o0 k)
      = accVec c XWG XBG XWU XBU XWO v43 v49 v71 (arg9.view.read (Elt F) o0) k := by
  induction k with
  | zero => rfl
  | succ k ih =>
    rw [oAcc, accVec]
    by_cases h : k < k0_t1_loop.trips
    · rw [dif_pos h, dif_pos h, stepBuf, View.read_writes_full, View.readAt_full, ih]
    · rw [dif_neg h, dif_neg h, ih]

variable (arg0 : Memref sig .tc .vmem S2048x1024 .f32) (arg1 : Memref sig .tc .vmem S1024x8 .f32)
  (arg2 : Memref sig .tc .vmem S1x1024 .f32) (arg3 : Memref sig .tc .vmem S1x1024 .f32)
  (arg9 : Memref sig .tc .vmem S2048x1024 .f32) (arg10 : Memref sig .tc .vmem S1x8 .f32) (arg11 : Memref sig .tc .vmem S1x1 .f32)
  (g0 : Buf (Elt F) (arg0.view.loc (c : Thread nD τ))) (g1 : Buf (Elt F) (arg1.view.loc (c : Thread nD τ)))
  (g2 : Buf (Elt F) (arg2.view.loc (c : Thread nD τ))) (g3 : Buf (Elt F) (arg3.view.loc (c : Thread nD τ)))

theorem read_outBuf : arg9.view.read (Elt F) (outBuf c XWG XBG XWU XBU XWO arg0 arg1 arg2 arg3 arg9 g0 g1 g2 g3)
    = outVec c XWG XBG XWU XBU XWO (arg0.view.read (Elt F) g0) (arg1.view.read (Elt F) g1) (arg2.view.read (Elt F) g2) (arg3.view.read (Elt F) g3) := by
  unfold outBuf oInit at0 at1 at2
  rw [read_oAcc, View.read_writes_full, View.readAt_full, View.readAt_full, View.readAt_full, View.readAt_full]; rfl
theorem read_useBuf : arg10.view.read (Elt F) (useBuf c arg0 arg1 arg10 g0 g1) = useVec (arg0.view.read (Elt F) g0) (arg1.view.read (Elt F) g1) := by
  unfold useBuf at0 at1
  rw [View.read_writes_full, View.readAt_full, View.readAt_full]; rfl
theorem read_lossBuf : arg11.view.read (Elt F) (lossBuf c arg0 arg1 arg11 g0 g1) = lossVec (arg0.view.read (Elt F) g0) (arg1.view.read (Elt F) g1) := by
  unfold lossBuf at0 at1
  rw [View.read_writes_full, View.readAt_full, View.readAt_full]; rfl

end Values

/-! ## The pipeline's data and the body's obligation -/

variable (m : (ℓ : Loc nD τ sig) → Buf (Elt F) ℓ) (ρ : Dev nD → PrngReg)

theorem main_around : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The results of the call at its one point. -/
def outAt (c : Dev nD) (t : Fin cfg0.N) : Vec F S2048x1024 .f32 :=
  outVec c (V m c main_arg3) (V m c main_call0_v2) (V m c main_arg5) (V m c main_call0_v3) (V m c main_arg7)
    (iblk m c 0 t) (iblk m c 1 t) (iblk m c 2 t) (iblk m c 3 t)
def useAt (c : Dev nD) (t : Fin cfg0.N) : Vec F S1x8 .f32 := useVec (iblk m c 0 t) (iblk m c 1 t)
def lossAt (c : Dev nD) (t : Fin cfg0.N) : Vec F S1x1 .f32 := lossVec (iblk m c 0 t) (iblk m c 1 t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => useAt m c t
    | ⟨6, _⟩ => lossAt m c t
  Φ _ := Pipeline.ΦD osem spec0 HB (V m) c
  q _ := fullShare
  owed _ := 0

theorem A_eq (c : Dev nD) (w : Fin cfg0.W) : (dats m 0 c).A w = V m c (Pipeline.arrRef spec0 w) := by
  dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outAt m c t := by dsimp only [dats]
theorem after_w5 (c : Dev nD) (t : Fin cfg0.N) : (dats m 0 c).after 5 t = useAt m c t := by dsimp only [dats]
theorem after_w6 (c : Dev nD) (t : Fin cfg0.N) : (dats m 0 c).after 6 t = lossAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_sound (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl, show (dats m 0 c).Φ t.castSucc = Pipeline.ΦD osem spec0 HB (V m) c from rfl]
  simp only [before_w0, before_w1, before_w2, before_w3, after_w0, after_w1, after_w2, after_w3, after_w4, after_w5, after_w6]
  unfold Dat.owesAt Pipeline.owesWithin
  rw [show (dats m 0 c).owed t.castSucc = 0 from rfl, show (dats m 0 c).owed t.succ = 0 from rfl]
  unfold owns
  iintro ⟨HP, ⟨%W, -, HW⟩, ⟨%d0, %g0, %e0, H0⟩, ⟨%d1, %g1, %e1, H1⟩, ⟨%d2, %g2, %e2, H2⟩, ⟨%d3, %g3, %e3, H3⟩,
    ⟨%d4, %g4, -, H4⟩, ⟨%d5, %g5, -, H5⟩, ⟨%d6, %g6, -, H6⟩⟩
  ihave HS := (own_split c (V m)) $$ HP
  icases HS with ⟨Hg, HR⟩
  iapply (bodyRun c (V m c main_arg3) (V m c main_call0_v2) (V m c main_arg5) (V m c main_call0_v3) (V m c main_arg7)
    (st0_0 t) (hstage0_0 0) (st0_1 t) (hstage0_1 0) (st0_2 t) (hstage0_2 0) (st0_3 t) (hstage0_3 0) (st0_4 t) (hstage0_4 0)
    (st0_5 t) (hstage0_5 0) (st0_6 t) (hstage0_6 0) g0 g1 g2 g3 g4 g5 g6 W _)
  unfold ins outs
  isplitl [H0 H1 H2 H3 H4 H5 H6 HW HR]
  · isplitl [H0 H1 H2 H3]
    · isplitl [H0]; · iexact H0
      isplitl [H1]; · iexact H1
      isplitl [H2]; · iexact H2
      iexact H3
    isplitl [H4 H5 H6]
    · isplitl [H4]; · iexact H4
      isplitl [H5]; · iexact H5
      iexact H6
    isplitl [HW]; · iexact HW
    iexact HR
  iintro ⟨⟨H0, H1, H2, H3⟩, ⟨H4, H5, H6⟩, ⟨%W', HW⟩, HR⟩
  isplitl [Hg HR]
  · iapply (own_join c (V m))
    isplitl [Hg]; · iexact Hg
    iexact HR
  isplitl [HW]
  · iexists W'; isplitr
    · ipureintro; exact fun _ _ => Or.inl trivial
    iexact HW
  isplitl [H0]
  · iexists g0; isplitr
    · ipureintro; exact e0
    iexact H0
  isplitl [H1]
  · iexists g1; isplitr
    · ipureintro; exact e1
    iexact H1
  isplitl [H2]
  · iexists g2; isplitr
    · ipureintro; exact e2
    iexact H2
  isplitl [H3]
  · iexists g3; isplitr
    · ipureintro; exact e3
    iexact H3
  isplitl [H4]
  · iexists _; isplitr
    swap; · iexact H4
    ipureintro
    rw [read_outBuf, e0, e1, e2, e3]; rfl
  isplitl [H5]
  · iexists _; isplitr
    swap; · iexact H5
    ipureintro
    rw [read_useBuf, e0, e1]; rfl
  iexists _; isplitr
  swap; · iexact H6
  ipureintro
  rw [read_lossBuf, e0, e1]; rfl

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) 𝒱₀ () Set.univ := fun t => by
  rw [bigSep_W0, bigSep_W0, row_at]
  exact triple_restated (body_sound m c t) rfl .rfl fun _ => .rfl

/-! ## The run and the frame -/

theorem tail_sub : ∀ ops ∈ ([hostOps1] : List (List (HloOp τ sig (Elt F)))), ∀ op ∈ ops,
    op.bufs ⊆ Pipeline.tailRefsBut sig Pipeline.Prefetch.none spec0 HB := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl | rfl
  all_goals
    intro b hb
    simp only [HB, Finset.mem_insert, Finset.mem_singleton] at hb
    rcases hb with rfl | rfl | rfl | rfl | rfl <;> clear * - <;> simp only [StableHlo.reshape_bufs, Finset.mem_insert, Finset.mem_singleton] <;> decide

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem defs₀ 𝒱₀ ownSemFacts HB HB_sub m ρ main
    (hbody := fun c => (obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m) (hA := A_eq m) (hin := fun _ => .rfl) (hout := fun _ => .rfl) (Q' := _) (hQ' := fun _ h => h)

/-- A buffer that neither the reshapes after the call nor the call's results name ends as the call found it. -/
theorem kept (c : Dev nD) (b : Ref sig .tc) (h0 : b ≠ main_v0_0) (h1 : b ≠ main_v0_1) (hw : ∀ w, Pipeline.arrRef spec0 w ≠ b) :
    Pipeline.afterTail₀ cfgs (dats m) 0 (V0 m) [hostOps1] c b = V0 m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact ⟨StableHlo.devRef_ne_of_ne h0, StableHlo.devRef_ne_of_ne h1⟩)),
    Pipeline.withArrays_of_ne _ c (V0 m c) _ b hw]

/-- The nine arguments end as they were launched. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  ⟨((h c).2 main_arg0 (Pipeline.mem_restRefs_of main_arg0 (by decide) (by decide))).trans ((kept m c main_arg0 (by decide) (by decide) (by decide)).trans (V_main_arg0 m c)),
    ((h c).1 1).trans (((dats m 0 c).arrAt_in 1 rfl _).trans ((A_eq m c 1).trans (V_main_arg1 m c))),
    ((h c).2 main_arg2 (Pipeline.mem_restRefs_of main_arg2 (by decide) (by decide))).trans ((kept m c main_arg2 (by decide) (by decide) (by decide)).trans (V_main_arg2 m c)),
    ((h c).2 main_arg3 (Pipeline.mem_restRefs_of main_arg3 (by decide) (by decide))).trans ((kept m c main_arg3 (by decide) (by decide) (by decide)).trans (V_main_arg3 m c)),
    ((h c).2 main_arg4 (Pipeline.mem_restRefs_of main_arg4 (by decide) (by decide))).trans ((kept m c main_arg4 (by decide) (by decide) (by decide)).trans (V_main_arg4 m c)),
    ((h c).2 main_arg5 (Pipeline.mem_restRefs_of main_arg5 (by decide) (by decide))).trans ((kept m c main_arg5 (by decide) (by decide) (by decide)).trans (V_main_arg5 m c)),
    ((h c).2 main_arg6 (Pipeline.mem_restRefs_of main_arg6 (by decide) (by decide))).trans ((kept m c main_arg6 (by decide) (by decide) (by decide)).trans (V_main_arg6 m c)),
    ((h c).2 main_arg7 (Pipeline.mem_restRefs_of main_arg7 (by decide) (by decide))).trans ((kept m c main_arg7 (by decide) (by decide) (by decide)).trans (V_main_arg7 m c)),
    ((h c).2 main_arg8 (Pipeline.mem_restRefs_of main_arg8 (by decide) (by decide))).trans ((kept m c main_arg8 (by decide) (by decide) (by decide)).trans (V_main_arg8 m c))⟩

end Cert.Proof.Pipe

end
-- ==== Proof.Frames.lean ====
/-
  The frames: both readings of the kernel from the one run (Proof/Run.lean), and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

set_option maxRecDepth 16384

noncomputable section

namespace Cert.Proof

open Idealize.ShloMosaic Idealize.SL.Sem

/-! The two printed kernels are one text, so their bodies, their calls and their programs are equal. -/

theorem body_eq : @Cert.Kernel.cc0__body Bits _ Cert.Kernel.Gen.facts = @Cert.KernelIdeal.cc0__body Bits _ Cert.KernelIdeal.Gen.facts := rfl
theorem calls_eq : (Cert.Kernel.defs₀ (F := Bits)) = (Cert.KernelIdeal.defs₀ (F := Bits)) :=
  congrArg Defs.onTc (funext fun l => match l with | ⟨0, _⟩ => funext fun a => by obtain ⟨t, s⟩ := a; rfl)
theorem main_eq : (Cert.Kernel.main (F := Bits)) = (Cert.KernelIdeal.main (F := Bits)) := rfl
theorem defs_eq : (Cert.Kernel.defs (F := Bits)) = (Cert.KernelIdeal.defs (F := Bits)) :=
  congrArg (Pipeline.defs Cert.KernelIdeal.pcfgs) calls_eq

/-- The kernel at the machine's floats: the run over any floats, read at the words. -/
theorem frame_kernel : Cert.quiescent_Kernel := fun m ρ _ => by
  rw [defs_eq, main_eq]
  exact (θ_run Cert.KernelIdeal.defs _ _).mono (fun _ h => ⟨fun c => Pipe.args_kept m h.1 c, h.2⟩) (Pipe.run_main (F := Bits) m ρ)

/-- The kernel at the extended reals. -/
theorem frame_ideal : Cert.quiescent_KernelIdeal := fun m ρ _ =>
  (θ_run Cert.KernelIdeal.defs _ _).mono (fun _ h => ⟨fun c => Pipe.args_kept m h.1 c, h.2⟩) (Pipe.run_main (F := Ideal) m ρ)

/-- The reference at the extended reals: a list of host operations, without semaphores. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Consts.lean ====
/-
  The constants of the two programs and sums over the extended reals.
-/
module

public import Idealize.ShloMosaic.Lib.Pointwise
public import Idealize.ShloMosaic.Lib.IdealHost

@[expose] public section

noncomputable section

namespace Cert.Proof.Val

open Idealize.ShloMosaic
open scoped BigOperators

/-! ## Constants -/

theorem word_neg_inf : Ideal.ofBits .f32 0xFF800000#32 = (⊥ : EReal) := by
  simp [Ideal.ofBits, Ideal.ieee]

theorem word_neg_one : Ideal.ofBits .f32 0xBF800000#32 = ((-1 : ℝ) : EReal) := by
  simp [Ideal.ofBits, Ideal.ieee, -EReal.coe_mul, -EReal.coe_neg]; norm_num

theorem word_two : Ideal.ofBits .f32 0x40000000#32 = ((2 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_inf : Ideal.ofBits .f32 0x7F800000#32 = (⊤ : EReal) := by
  simp [Ideal.ofBits, Ideal.ieee]

/-- The small constant under the root: a positive real. -/
theorem word_eps : ∃ e : ℝ, 0 < e ∧ Ideal.ofBits .f32 0x358637BD#32 = (e : EReal) := by
  refine ⟨(8796093 : ℝ) * 2 ^ (-43 : ℤ), by positivity, ?_⟩
  simp [Ideal.ofBits, Ideal.ieee, -EReal.coe_mul]

/-! ## Sums and products -/

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real that is not negative goes into any sum of extended reals. -/
theorem real_mul_sum {ι : Type} (s : Finset ι) {w : ℝ} (hw : 0 ≤ w) (f : ι → EReal) :
    (w : EReal) * ∑ i ∈ s, f i = ∑ i ∈ s, (w : EReal) * f i := by
  classical
  induction s using Finset.induction_on with
  | empty => simp
  | insert a s ha ih =>
    rw [Finset.sum_insert ha, Finset.sum_insert ha, ← ih]
    exact EReal.left_distrib_of_nonneg_of_ne_top (by exact_mod_cast hw) (EReal.coe_ne_top _) _ _

/-- Doubling, at every extended real. -/
theorem two_mul_self (b : EReal) : ((2 : ℝ) : EReal) * b = b + b := by
  induction b using EReal.rec with
  | bot => rw [EReal.coe_mul_bot_of_pos (by norm_num)]; rfl
  | coe r => rw [← EReal.coe_mul, ← EReal.coe_add, _root_.two_mul]
  | top => rw [EReal.coe_mul_top_of_pos (by norm_num)]; rfl

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem logistic_real (g : ℝ) : ∃ r : ℝ, Ideal.div 1 (1 + Ideal.exp (-(g : EReal))) = (r : EReal) := by
  refine ⟨1 / (1 + Real.exp (-g)), ?_⟩
  have h : Ideal.exp (-(g : EReal)) = ((Real.exp (-g) : ℝ) : EReal) := rfl
  rw [h, ← EReal.coe_one, ← EReal.coe_add, div_real]
  positivity

/-- What is neither infinity is a real. -/
theorem exists_real {x : EReal} (h1 : x ≠ ⊤) (h2 : x ≠ ⊥) : ∃ r : ℝ, x = (r : EReal) :=
  ⟨x.toReal, (EReal.coe_toReal h1 h2).symm⟩

end Cert.Proof.Val
-- ==== Proof.Pre.lean ====
/-
  The precondition read back: the entries of the scale, the matrices and the hidden layers' biases are reals.
-/
module

public import proofs.«01_k».proof.Pre_weights_finite
public import proofs.«01_k».proof.Proof.Consts
public import Idealize.ShloMosaic.Lib.ReduceAll
public import Idealize.ShloMosaic.Lib.Decide

@[expose] public section

set_option maxRecDepth 16384

noncomputable section

namespace Cert.Proof.Pre

open Cert.Pre_weights_finite Cert.Proof.Val Idealize.ShloMosaic

instance facts : Facts where
  bcast_S_S1024 := by decide
  reducesTo_S1024_S_d0 := by decide
  h_S_ := by decide
  bcast_S_S1024x2816 := by decide
  reducesTo_S1024x2816_S_d0_1 := by decide
  bcast_S_S2816 := by decide
  reducesTo_S2816_S_d0 := by decide
  bcast_S_S2816x1024 := by decide
  reducesTo_S2816x1024_S_d0_1 := by decide

/-- One array's part: each entry less than infinity in magnitude, so each is a real. -/
theorem entries {s : Shape} (x : FVec Ideal s .f32) (hb : S_.BroadcastsInDim s (![] : Fin 0 → Fin s.rank)) {axes : List (Fin s.rank)}
    (hr : s.ReducesTo axes S_) (init : IVec S_ 1) (hu : 0 < S_.numel) (j : S_.Idx)
    (e : Host.reduce IntOp.andi (cmpf .olt (Host.absf x) (broadcastInDim s ![] hb (constant S_ .f32 0x7F800000#32))) init hr hu j = 1#1)
    (i : s.Idx) : ∃ r : ℝ, x i = (r : EReal) := by
  haveI : Subsingleton S_.Idx := ⟨fun a b => funext fun k => Fin.elim0 k⟩
  have h := Host.reduce_andi_all _ _ _ _ j e i
  have h2 : Ideal.cmp .olt (max (x i) (-(x i))) (Ideal.ofBits .f32 0x7F800000#32) = 1#1 := h
  rw [word_inf] at h2
  have h3 : max (x i) (-(x i)) < ⊤ := by
    by_contra hn
    have : Ideal.cmp .olt (max (x i) (-(x i))) (⊤ : EReal) = 0#1 := by
      show BitVec.ofBool (decide _) = _
      rw [decide_eq_false hn]; rfl
    rw [this] at h2
    exact absurd h2 (by decide)
  refine exists_real (fun ht => ?_) (fun hb => ?_)
  · rw [ht] at h3; simp at h3
  · rw [hb] at h3; simp at h3

/-- The six arrays' entries are reals. -/
theorem reals (a0 : FVec Ideal S1x2048x1024 .f32) (a1 : FVec Ideal S1024x8 .f32) (a2 : FVec Ideal S1024 .f32) (a3 : FVec Ideal S1024x2816 .f32)
    (a4 : FVec Ideal S2816 .f32) (a5 : FVec Ideal S1024x2816 .f32) (a6 : FVec Ideal S2816 .f32) (a7 : FVec Ideal S2816x1024 .f32)
    (a8 : FVec Ideal S1024 .f32) (h : fn (F := Ideal) a0 a1 a2 a3 a4 a5 a6 a7 a8 = fun _ => 1#1) :
    (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal)) := by
  have e := congrFun h (fun k => Fin.elim0 k)
  unfold fn fn_part1 at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e2, e3⟩ := IntOp.andi_eq_one.1 e
  exact ⟨entries a2 _ _ _ _ _ e2, entries a3 _ _ _ _ _ e3, entries a4 _ _ _ _ _ e4, entries a5 _ _ _ _ _ e5, entries a6 _ _ _ _ _ e6,
    entries a7 _ _ _ _ _ e7⟩

end Cert.Proof.Pre

end
-- ==== Proof.Windows.lean ====
/-
  What a trip reads of the weights: block `k` of each operand, entry by entry.
-/
module

public import proofs.«01_k».proof.Proof.Run
public import Idealize.ShloMosaic.Lib.Pointwise
public import Idealize.ShloMosaic.Lib.Pipeline.Value

@[expose] public section

set_option maxRecDepth 16384

noncomputable section

namespace Cert.Proof.Pipe

open Cert.KernelIdeal Cert.KernelIdeal.Gen
open Idealize.ShloMosaic
open Idealize.ShloMosaic.TcCoe

variable {F : FTy → Type} [FloatOps F]

section Blocks

variable (c : Dev nD)
  (XWG : Buf (Elt F) (hWG.view.loc (c : Thread nD τ))) (XBG : Buf (Elt F) (hBG.view.loc (c : Thread nD τ)))
  (XWU : Buf (Elt F) (hWU.view.loc (c : Thread nD τ))) (XBU : Buf (Elt F) (hBU.view.loc (c : Thread nD τ)))
  (XWO : Buf (Elt F) (hWO.view.loc (c : Thread nD τ)))

theorem trips_eq : k0_t1_loop.trips = 11 := by decide
theorem trip_lt (k : Trip) : k.val < 11 := trips_eq ▸ k.isLt
theorem off35_at (k : Trip) : k0_off35 (wd k.val) = slotOff (Ring.sl 2 k.val) := by revert k; decide
theorem off36_at (k : Trip) : k0_off36 (wd k.val) = slotOff (Ring.sl 2 k.val) := by revert k; decide
theorem off37_at (k : Trip) : k0_off37 (wd k.val) = slotOff (Ring.sl 2 k.val) := by revert k; decide
theorem off38_at (k : Trip) : k0_off38 (wd k.val) = slotOff (Ring.sl 2 k.val) := by revert k; decide
theorem off39_at (k : Trip) : k0_off39 (wd k.val) = slotOff (Ring.sl 2 k.val) := by revert k; decide
theorem bk_at (k : Trip) : (Ring.bk 11 k.val).val = k.val := by revert k; decide

/-- A load of a slot just delivered, as a matrix: the block. -/
theorem load_slotW (B : Memref sig .tc .vmem S2x1024x256 .f32) (s : Fin 2) {off : Fin 3 → ℕ} (e : off = slotOff s) (h)
    (p : S1024x256.Idx → Elt F .f32) (f : B.view.ty.Contents (Elt F)) :
    shapeCast S1024x256 (B.view.readAt (Elt F) (Rect.unit (s := S2x1024x256) off S1x1024x256.size h).toLoadRect
      ((slotW B s).view.writes (Elt F) f [⟨Rect.whole S1024x256, p⟩])) shapeCasts_S1x1024x256_S1024x256 = p := by
  subst e
  exact View.read_writes_whole (slotW B s).view f p

theorem load_slotB (B : Memref sig .tc .vmem S2x1x256 .f32) (s : Fin 2) {off : Fin 3 → ℕ} (e : off = slotOff s) (h)
    (p : S1x256.Idx → Elt F .f32) (f : B.view.ty.Contents (Elt F)) :
    shapeCast S1x256 (B.view.readAt (Elt F) (Rect.unit (s := S2x1x256) off S1x1x256.size h).toLoadRect
      ((slotB B s).view.writes (Elt F) f [⟨Rect.whole S1x256, p⟩])) shapeCasts_S1x1x256_S1x256 = p := by
  subst e
  exact View.read_writes_whole (slotB B s).view f p

theorem load_slotO (B : Memref sig .tc .vmem S2x256x1024 .f32) (s : Fin 2) {off : Fin 3 → ℕ} (e : off = slotOff s) (h)
    (p : S256x1024.Idx → Elt F .f32) (f : B.view.ty.Contents (Elt F)) :
    shapeCast S256x1024 (B.view.readAt (Elt F) (Rect.unit (s := S2x256x1024) off S1x256x1024.size h).toLoadRect
      ((slotO B s).view.writes (Elt F) f [⟨Rect.whole S256x1024, p⟩])) shapeCasts_S1x256x1024_S256x1024 = p := by
  subst e
  exact View.read_writes_whole (slotO B s).view f p

/-- The block as a matrix, entry by entry. -/
theorem dropW {α : Type} (v : S1x1024x256.Idx → α) (i : Fin 1024) (j : Fin 256) :
    shapeCast S1024x256 v shapeCasts_S1x1024x256_S1024x256 (ix2 i j) = v (ix3 0 i j) := by pointwise
theorem dropB {α : Type} (v : S1x1x256.Idx → α) (j : Fin 256) :
    shapeCast S1x256 v shapeCasts_S1x1x256_S1x256 (ix2 0 j) = v (ix3 0 0 j) := by pointwise
theorem dropO {α : Type} (v : S1x256x1024.Idx → α) (i : Fin 256) (j : Fin 1024) :
    shapeCast S256x1024 v shapeCasts_S1x256x1024_S256x1024 (ix2 i j) = v (ix3 0 i j) := by pointwise

/-- Column (or row) `j` of block `k`. -/
def pos (k : Trip) (j : Fin 256) : Fin 2816 := ⟨k.val * 256 + j.val, by have := trip_lt k; omega⟩

theorem wgAt_apply (k : Trip) (i : Fin 1024) (j : Fin 256) : wgAt c XWG k (ix3 0 i j) = XWG (ix2 i (pos k j)) := by
  refine (dropW _ i j).symm.trans ((congrFun (load_slotW rWG (Ring.sl 2 k.val) (off35_at k) (k0_off35_inb _ (chk2_at k))
    (payload c (blkW hWG) (fun _ => XWG) (Ring.bk 11 k.val)) (slotW rWG (Ring.sl 2 k.val)).view.junk) (ix2 i j)).trans (congrArg XWG ?_))
  funext a; apply Fin.ext
  match a with
  | ⟨0, _⟩ => show 0 + 1 * i.val = i.val; omega
  | ⟨1, _⟩ => show 256 * (Ring.bk 11 k.val).val + 1 * j.val = k.val * 256 + j.val; rw [bk_at]; omega
theorem wuAt_apply (k : Trip) (i : Fin 1024) (j : Fin 256) : wuAt c XWU k (ix3 0 i j) = XWU (ix2 i (pos k j)) := by
  refine (dropW _ i j).symm.trans ((congrFun (load_slotW rWU (Ring.sl 2 k.val) (off36_at k) (k0_off36_inb _ (chk3_at k))
    (payload c (blkW hWU) (fun _ => XWU) (Ring.bk 11 k.val)) (slotW rWU (Ring.sl 2 k.val)).view.junk) (ix2 i j)).trans (congrArg XWU ?_))
  funext a; apply Fin.ext
  match a with
  | ⟨0, _⟩ => show 0 + 1 * i.val = i.val; omega
  | ⟨1, _⟩ => show 256 * (Ring.bk 11 k.val).val + 1 * j.val = k.val * 256 + j.val; rw [bk_at]; omega
theorem bgAt_apply (k : Trip) (j : Fin 256) : bgAt c XBG k (ix3 0 0 j) = XBG (ix2 0 (pos k j)) := by
  refine (dropB _ j).symm.trans ((congrFun (load_slotB rBG (Ring.sl 2 k.val) (off37_at k) (k0_off37_inb _ (chk4_at k))
    (payload c (blkB hBG) (fun _ => XBG) (Ring.bk 11 k.val)) (slotB rBG (Ring.sl 2 k.val)).view.junk) (ix2 0 j)).trans (congrArg XBG ?_))
  funext a; apply Fin.ext
  match a with
  | ⟨0, _⟩ => rfl
  | ⟨1, _⟩ => show 256 * (Ring.bk 11 k.val).val + 1 * j.val = k.val * 256 + j.val; rw [bk_at]; omega
theorem buAt_apply (k : Trip) (j : Fin 256) : buAt c XBU k (ix3 0 0 j) = XBU (ix2 0 (pos k j)) := by
  refine (dropB _ j).symm.trans ((congrFun (load_slotB rBU (Ring.sl 2 k.val) (off38_at k) (k0_off38_inb _ (chk5_at k))
    (payload c (blkB hBU) (fun _ => XBU) (Ring.bk 11 k.val)) (slotB rBU (Ring.sl 2 k.val)).view.junk) (ix2 0 j)).trans (congrArg XBU ?_))
  funext a; apply Fin.ext
  match a with
  | ⟨0, _⟩ => rfl
  | ⟨1, _⟩ => show 256 * (Ring.bk 11 k.val).val + 1 * j.val = k.val * 256 + j.val; rw [bk_at]; omega
theorem woAt_apply (k : Trip) (i : Fin 256) (j : Fin 1024) : woAt c XWO k (ix3 0 i j) = XWO (ix2 (pos k i) j) := by
  refine (dropO _ i j).symm.trans ((congrFun (load_slotO rWO (Ring.sl 2 k.val) (off39_at k) (k0_off39_inb _ (chk6_at k))
    (payload c (blkO hWO) (fun _ => XWO) (Ring.bk 11 k.val)) (slotO rWO (Ring.sl 2 k.val)).view.junk) (ix2 i j)).trans (congrArg XWO ?_))
  funext a; apply Fin.ext
  match a with
  | ⟨0, _⟩ => show 256 * (Ring.bk 11 k.val).val + 1 * i.val = k.val * 256 + i.val; rw [bk_at]; omega
  | ⟨1, _⟩ => show 0 + 1 * j.val = j.val; omega

end Blocks

end Cert.Proof.Pipe

end
-- ==== Proof.Host.lean ====
/-
  The call's operands and results in the program's arguments and results: reshapes, and whole blocks.
-/
module

public import proofs.«01_k».proof.Proof.Windows
public import Idealize.ShloMosaic.Lib.Claim
public import Idealize.ShloMosaic.Lib.Pipeline.ValueKit

@[expose] public section

set_option maxRecDepth 16384

noncomputable section

namespace Cert.Proof.Pipe

open Cert.KernelIdeal Cert.KernelIdeal.Gen
open Idealize.ShloMosaic Idealize.ShloMosaic.StableHlo
open Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ)

theorem V_x (c : Dev nD) : V m c main_call0_v0 = shapeCast S2048x1024 (m ((c : Thread nD τ).loc main_arg0)) shapeCasts_S1x2048x1024_S2048x1024 := by
  unfold V V0
  simp only [hostOps0, List.flatten_cons, List.flatten_nil, List.append_nil, List.cons_append, List.nil_append, TRef.reshape]
  after_results_simp
  rfl
theorem V_scale (c : Dev nD) : V m c main_call0_v1 = shapeCast S1x1024 (m ((c : Thread nD τ).loc main_arg2)) shapeCasts_S1024_S1x1024 := by
  unfold V V0
  simp only [hostOps0, List.flatten_cons, List.flatten_nil, List.append_nil, List.cons_append, List.nil_append, TRef.reshape]
  after_results_simp
  rfl
theorem V_gateBias (c : Dev nD) : V m c main_call0_v2 = shapeCast S1x2816 (m ((c : Thread nD τ).loc main_arg4)) shapeCasts_S2816_S1x2816 := by
  unfold V V0
  simp only [hostOps0, List.flatten_cons, List.flatten_nil, List.append_nil, List.cons_append, List.nil_append, TRef.reshape]
  after_results_simp
  rfl
theorem V_upBias (c : Dev nD) : V m c main_call0_v3 = shapeCast S1x2816 (m ((c : Thread nD τ).loc main_arg6)) shapeCasts_S2816_S1x2816 := by
  unfold V V0
  simp only [hostOps0, List.flatten_cons, List.flatten_nil, List.append_nil, List.cons_append, List.nil_append, TRef.reshape]
  after_results_simp
  rfl
theorem V_outBias (c : Dev nD) : V m c main_call0_v4 = shapeCast S1x1024 (m ((c : Thread nD τ).loc main_arg8)) shapeCasts_S1024_S1x1024 := by
  unfold V V0
  simp only [hostOps0, List.flatten_cons, List.flatten_nil, List.append_nil, List.cons_append, List.nil_append, TRef.reshape]
  after_results_simp
  rfl

/-! ## The staged operands are the whole arrays -/

theorem index_0 (t : Fin cfg0.N) : win0_0.index t 0 = 0 ∧ win0_0.index t 1 = 0 := by revert t; decide +kernel
theorem iblk_x (c : Dev nD) (t : Fin cfg0.N) : (iblk m c 0 t : Vec F S2048x1024 .f32) = V m c main_call0_v0 := by
  funext j
  unfold iblk
  blk_simp
  refine congrArg (V m c main_call0_v0) ?_
  have h := index_0 t
  funext a; apply Fin.ext
  match a with
  | ⟨0, _⟩ => blk_simp; rw [h.1]; omega
  | ⟨1, _⟩ => blk_simp; rw [h.2]; omega
theorem index_1 (t : Fin cfg0.N) : win0_1.index t 0 = 0 ∧ win0_1.index t 1 = 0 := by revert t; decide +kernel
theorem iblk_router (c : Dev nD) (t : Fin cfg0.N) : (iblk m c 1 t : Vec F S1024x8 .f32) = V m c main_arg1 := by
  funext j
  unfold iblk
  blk_simp
  refine congrArg (V m c main_arg1) ?_
  have h := index_1 t
  funext a; apply Fin.ext
  match a with
  | ⟨0, _⟩ => blk_simp; rw [h.1]; omega
  | ⟨1, _⟩ => blk_simp; rw [h.2]; omega
theorem index_2 (t : Fin cfg0.N) : win0_2.index t 0 = 0 ∧ win0_2.index t 1 = 0 := by revert t; decide +kernel
theorem iblk_scale (c : Dev nD) (t : Fin cfg0.N) : (iblk m c 2 t : Vec F S1x1024 .f32) = V m c main_call0_v1 := by
  funext j
  unfold iblk
  blk_simp
  refine congrArg (V m c main_call0_v1) ?_
  have h := index_2 t
  funext a; apply Fin.ext
  match a with
  | ⟨0, _⟩ => blk_simp; rw [h.1]
  | ⟨1, _⟩ => blk_simp; rw [h.2]; omega
theorem index_3 (t : Fin cfg0.N) : win0_3.index t 0 = 0 ∧ win0_3.index t 1 = 0 := by revert t; decide +kernel
theorem iblk_outBias (c : Dev nD) (t : Fin cfg0.N) : (iblk m c 3 t : Vec F S1x1024 .f32) = V m c main_call0_v4 := by
  funext j
  unfold iblk
  blk_simp
  refine congrArg (V m c main_call0_v4) ?_
  have h := index_3 t
  funext a; apply Fin.ext
  match a with
  | ⟨0, _⟩ => blk_simp; rw [h.1]
  | ⟨1, _⟩ => blk_simp; rw [h.2]; omega

/-! ## The results -/

theorem arr_out (c : Dev nD) : (dats m 0 c).arrAt 4 cfg0.N = outAt m c t0_0 := by
  refine (dats m 0 c).arrAt_eq_of_after_last 4 t0_0 (by decide +kernel) _ fun j => ?_
  blk_simp
  rw [after_w4]
theorem arr_loss (c : Dev nD) : (dats m 0 c).arrAt 6 cfg0.N = lossAt m c t0_0 := by
  refine (dats m 0 c).arrAt_eq_of_after_last 6 t0_0 (by decide +kernel) _ fun j => ?_
  blk_simp
  rw [after_w6]

theorem arr_end (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide +kernel) c (V0 m c) (fun w => (dats m 0 c).arrAt w cfg0.N) w

theorem end_out (c : Dev nD) : Pipeline.afterTail₀ cfgs (dats m) 0 (V0 m) [hostOps1] c main_v0_0
    = shapeCast S1x2048x1024 (outAt m c t0_0) shapeCasts_S2048x1024_S1x2048x1024 := by
  unfold Pipeline.afterTail₀
  simp only [hostOps1, List.flatten_cons, List.flatten_nil, List.append_nil, List.cons_append, List.nil_append, TRef.reshape]
  after_results_simp
  exact congrArg (fun v : Vec F S2048x1024 .f32 => shapeCast S1x2048x1024 v shapeCasts_S2048x1024_S1x2048x1024) ((arr_end m c 4).trans (arr_out m c))
theorem end_loss (c : Dev nD) : Pipeline.afterTail₀ cfgs (dats m) 0 (V0 m) [hostOps1] c main_v0_1
    = shapeCast S_ (lossAt m c t0_0) shapeCasts_S1x1_S_ := by
  unfold Pipeline.afterTail₀
  simp only [hostOps1, List.flatten_cons, List.flatten_nil, List.append_nil, List.cons_append, List.nil_append, TRef.reshape]
  after_results_simp
  exact congrArg (fun v : Vec F S1x1 .f32 => shapeCast S_ v shapeCasts_S1x1_S_) ((arr_end m c 6).trans (arr_loss m c))

/-- The two results of a run, in the staged operands. -/
theorem results {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc main_v0_0) = shapeCast S1x2048x1024 (outAt m c t0_0) shapeCasts_S2048x1024_S1x2048x1024
      ∧ r.2.mem ((c : Thread nD τ).loc main_v0_1) = shapeCast S_ (lossAt m c t0_0) shapeCasts_S1x1_S_ :=
  ⟨((h c).2 main_v0_0 (Pipeline.mem_restRefs_of main_v0_0 (by decide) (by decide))).trans (end_out m c),
    ((h c).2 main_v0_1 (Pipeline.mem_restRefs_of main_v0_1 (by decide) (by decide))).trans (end_loss m c)⟩

end Cert.Proof.Pipe

end
-- ==== Proof.Router.lean ====
/-
  The router's row: a softmax over eight logits, and its two greatest weights by two selections.
-/
module

public import proofs.«01_k».proof.Proof.Consts
public import Idealize.ShloMosaic.Lib.SortFacts

@[expose] public section

noncomputable section

namespace Cert.Proof.Val

open Idealize.ShloMosaic
open scoped BigOperators

/-- The greatest of eight. -/
def peak (l : Fin 8 → EReal) : EReal := Finset.univ.sup l

/-- The softmax of eight logits. -/
def soft (l : Fin 8 → EReal) (e : Fin 8) : EReal :=
  Ideal.div (Ideal.exp (l e - peak l)) (∑ i, Ideal.exp (l i - peak l))

/-- Either every weight is the lowest value, or all are reals, none negative, one positive. -/
def Good (p : Fin 8 → EReal) : Prop :=
  (∀ e, p e = ⊥) ∨ ∃ q : Fin 8 → ℝ, (∀ e, p e = (q e : EReal)) ∧ (∀ e, 0 ≤ q e) ∧ ∃ e, 0 < q e

theorem exp_zero_of_bot {x : EReal} (h : x = ⊥) : Ideal.exp x = 0 := by subst h; rfl

theorem div_zero_zero : Ideal.div 0 0 = ⊥ := by
  unfold Ideal.div; rw [if_pos rfl, if_neg (lt_irrefl _)]

theorem soft_bot (l : Fin 8 → EReal) (h : ∀ e, l e - peak l = ⊥) (e : Fin 8) : soft l e = ⊥ := by
  have h0 : ∀ i, Ideal.exp (l i - peak l) = 0 := fun i => exp_zero_of_bot (h i)
  unfold soft
  simp only [h0, Finset.sum_const_zero]
  exact div_zero_zero

theorem good_soft (l : Fin 8 → EReal) : Good (soft l) := by
  have hle : ∀ e, l e ≤ peak l := fun e => Finset.le_sup (f := l) (Finset.mem_univ e)
  rcases eq_or_ne (peak l) ⊤ with ht | ht
  · left
    refine soft_bot l fun e => ?_
    rw [ht, sub_eq_add_neg, EReal.neg_top, EReal.add_bot]
  rcases eq_or_ne (peak l) ⊥ with hb | hb
  · left
    refine soft_bot l fun e => ?_
    have := hle e
    rw [hb, le_bot_iff] at this
    rw [this, sub_eq_add_neg, EReal.bot_add]
  · right
    obtain ⟨M, hM⟩ := exists_real ht hb
    obtain ⟨e0, -, he0⟩ := Finset.exists_mem_eq_sup (Finset.univ : Finset (Fin 8)) Finset.univ_nonempty l
    have hx : ∀ e, ∃ t : ℝ, 0 ≤ t ∧ Ideal.exp (l e - peak l) = (t : EReal) := by
      intro e
      have h := hle e
      rw [hM] at h ⊢
      induction hl : l e using EReal.rec with
      | bot => exact ⟨0, le_rfl, by rw [sub_eq_add_neg, EReal.bot_add]; rfl⟩
      | coe r => exact ⟨Real.exp (r - M), (Real.exp_pos _).le, by rw [← EReal.coe_sub]; rfl⟩
      | top => rw [hl] at h; exact absurd (top_le_iff.mp h) (EReal.coe_ne_top _)
    choose t ht0 hte using hx
    have h1 : t e0 = 1 := by
      have h := hte e0
      have h' : l e0 = (M : EReal) := by rw [← hM]; exact he0.symm
      rw [hM, h', ← EReal.coe_sub, sub_self] at h
      have h2 : Ideal.exp ((0 : ℝ) : EReal) = ((Real.exp 0 : ℝ) : EReal) := rfl
      rw [h2, Real.exp_zero] at h
      exact_mod_cast h.symm
    have hs : 0 < ∑ i, t i := by
      refine Finset.sum_pos' (fun i _ => ht0 i) ⟨e0, Finset.mem_univ _, ?_⟩
      rw [h1]; exact one_pos
    refine ⟨fun e => t e / ∑ i, t i, fun e => ?_, fun e => div_nonneg (ht0 e) hs.le, e0, ?_⟩
    · unfold soft
      simp only [hte]
      rw [sum_real, div_real _ _ hs.ne']
    · show 0 < t e0 / _
      rw [h1]; exact one_div_pos.mpr hs

/-! ## The first selection and its position -/

/-- The position of the greatest: the least position that holds it, as a word. -/
def firstAt (b : Fin 8 → Bool) : BitVec 32 :=
  Finset.univ.fold IntOp.minsi 2147483647#32 fun e => if b e then BitVec.ofNat 32 e.val else 8#32

theorem firstAt_mem (b : Fin 8 → Bool) (h : ∃ e, b e = true) : ∃ e, b e = true ∧ firstAt b = BitVec.ofNat 32 e.val := by
  revert b
  decide +kernel

/-- The second weight as the kernel selects it: the greatest once the first one's position holds minus one. -/
def second (p : Fin 8 → EReal) : EReal :=
  Finset.univ.sup fun e => if BitVec.ofNat 32 e.val = firstAt (fun i => decide (p i = peak p)) then ((-1 : ℝ) : EReal) else p e

theorem ofNat_inj8 (a b : Fin 8) : BitVec.ofNat 32 a.val = BitVec.ofNat 32 b.val ↔ a = b := by
  revert a b; decide

/-- The second selection: one position at which the weight is the greatest is left out. -/
theorem second_eq (p : Fin 8 → EReal) :
    ∃ i, p i = peak p ∧ second p = Finset.univ.sup fun e => if e = i then ((-1 : ℝ) : EReal) else p e := by
  obtain ⟨e0, -, he0⟩ := Finset.exists_mem_eq_sup (Finset.univ : Finset (Fin 8)) Finset.univ_nonempty p
  obtain ⟨i, hi, hf⟩ := firstAt_mem (fun i => decide (p i = peak p)) ⟨e0, decide_eq_true he0.symm⟩
  refine ⟨i, of_decide_eq_true hi, ?_⟩
  unfold second
  simp only [hf, ofNat_inj8]

/-! ## The reference's sort -/

/-- The positions by descending weight, equal weights in position order. -/
def order (p : Fin 8 → EReal) : List (Fin 8) := sortPositions 8 fun a b => decide (p b < p a)

theorem pairwise_insert (p : Fin 8 → EReal) (a : Fin 8) (l : List (Fin 8)) (h : l.Pairwise fun x y => p y ≤ p x) :
    (insertBefore (fun a b => decide (p b < p a)) a l).Pairwise fun x y => p y ≤ p x := by
  induction l with
  | nil => exact List.pairwise_singleton _ _
  | cons b l ih =>
    rw [List.pairwise_cons] at h
    unfold insertBefore
    split
    · rename_i hb
      have hb' : p a < p b := of_decide_eq_true hb
      rw [List.pairwise_cons]
      refine ⟨fun y hy => ?_, ih h.2⟩
      rcases List.mem_cons.mp ((perm_insertBefore _ a l).mem_iff.mp hy) with rfl | hy
      · exact hb'.le
      · exact h.1 y hy
    · rename_i hb
      have hb' : ¬ p a < p b := fun h => hb (decide_eq_true h)
      rw [List.pairwise_cons]
      refine ⟨fun y hy => ?_, List.pairwise_cons.mpr h⟩
      rcases List.mem_cons.mp hy with rfl | hy
      · exact not_lt.mp hb'
      · exact (h.1 y hy).trans (not_lt.mp hb')

theorem pairwise_sort (p : Fin 8 → EReal) (l : List (Fin 8)) :
    (stableSort (fun a b => decide (p b < p a)) l).Pairwise fun x y => p y ≤ p x := by
  induction l with
  | nil => exact List.Pairwise.nil
  | cons a l ih => exact pairwise_insert p a _ ih

/-- The first two positions of the order: different, the first a greatest, the second a greatest of the rest. -/
theorem order_two (p : Fin 8 → EReal) (s0 s1 : Fin 8)
    (h0 : s0 = sortedFrom (fun a b => decide (p b < p a)) 0) (h1 : s1 = sortedFrom (fun a b => decide (p b < p a)) 1) :
    s0 ≠ s1 ∧ (∀ e, p e ≤ p s0) ∧ ∀ e, e ≠ s0 → p e ≤ p s1 := by
  have hlen : (order p).length = 8 := length_sortPositions _ _
  have hperm : (order p).Perm (List.finRange 8) := perm_sortPositions _ _
  have hpw : (order p).Pairwise fun x y => p y ≤ p x := pairwise_sort p _
  have hnd : (order p).Nodup := hperm.nodup_iff.mpr (List.nodup_finRange 8)
  have hmem : ∀ e, e ∈ order p := fun e => hperm.mem_iff.mpr (List.mem_finRange e)
  match ho : order p, hlen with
  | a :: b :: l, _ =>
    have ea : s0 = a := by
      rw [h0]; unfold sortedFrom
      have : sortPositions 8 (fun a b => decide (p b < p a)) = a :: b :: l := ho
      simp [this]
    have eb : s1 = b := by
      rw [h1]; unfold sortedFrom
      have : sortPositions 8 (fun a b => decide (p b < p a)) = a :: b :: l := ho
      simp [this]
    subst ea eb
    rw [ho] at hpw hnd
    rw [ho] at hmem
    rw [List.pairwise_cons, List.pairwise_cons] at hpw
    refine ⟨fun h => ?_, fun e => ?_, fun e he => ?_⟩
    · rw [List.nodup_cons] at hnd
      exact hnd.1 (h ▸ List.mem_cons_self)
    · rcases List.mem_cons.mp (hmem e) with rfl | h
      · exact le_rfl
      · exact hpw.1 e h
    · rcases List.mem_cons.mp (hmem e) with rfl | h
      · exact absurd rfl he
      · rcases List.mem_cons.mp h with rfl | h
        · exact le_rfl
        · exact hpw.2.1 e h

/-- The two weights before they are normalized, read off the order. -/
theorem order_first (p : Fin 8 → EReal) (s0 : Fin 8) (h : ∀ e, p e ≤ p s0) : p s0 = peak p :=
  le_antisymm (Finset.le_sup (f := p) (Finset.mem_univ s0)) (Finset.sup_le fun e _ => h e)

theorem order_second (p : Fin 8 → EReal) (s0 s1 : Fin 8) (hne : s0 ≠ s1) (h0 : ∀ e, p e ≤ p s0) (h1 : ∀ e, e ≠ s0 → p e ≤ p s1)
    (hp : ((-1 : ℝ) : EReal) ≤ p s1) : p s1 = second p := by
  obtain ⟨i, hi, hs⟩ := second_eq p
  have hf := order_first p s0 h0
  rw [hs]
  apply le_antisymm
  · by_cases h : s1 = i
    · subst h
      refine (h0 s1).trans ?_
      have : p s0 = (fun e => if e = s1 then ((-1 : ℝ) : EReal) else p e) s0 := (if_neg hne).symm
      rw [this]
      exact Finset.le_sup (f := fun e => if e = s1 then ((-1 : ℝ) : EReal) else p e) (Finset.mem_univ s0)
    · have : p s1 = (fun e => if e = i then ((-1 : ℝ) : EReal) else p e) s1 := (if_neg h).symm
      rw [this]
      exact Finset.le_sup (f := fun e => if e = i then ((-1 : ℝ) : EReal) else p e) (Finset.mem_univ s1)
  · refine Finset.sup_le fun e _ => ?_
    by_cases h : e = i
    · rw [if_pos h]; exact hp
    · rw [if_neg h]
      by_cases h' : e = s0
      · subst h'
        rw [hf, ← hi]
        exact h1 i (fun hh => h hh.symm)
      · exact h1 e h'

/-- The two normalized weights agree, and are reals that are not negative. -/
theorem weights (p : Fin 8 → EReal) (hg : Good p) (a b : EReal)
    (ha : a = p (sortedFrom (fun a b => decide (p b < p a)) 0)) (hb : b = p (sortedFrom (fun a b => decide (p b < p a)) 1)) :
    ∃ u v : ℝ, 0 ≤ u ∧ 0 ≤ v ∧ Ideal.div a (a + b) = (u : EReal) ∧ Ideal.div b (a + b) = (v : EReal)
      ∧ Ideal.div (peak p) (peak p + second p) = (u : EReal) ∧ Ideal.div (second p) (peak p + second p) = (v : EReal) := by
  obtain ⟨hne, h0, h1⟩ := order_two p _ _ rfl rfl
  rw [← ha] at h0
  rw [← hb] at h1
  rcases hg with hbot | ⟨q, hq, hn, e, he⟩
  · have hpk : peak p = ⊥ := by
      apply le_bot_iff.mp
      exact Finset.sup_le fun e _ => (hbot e).le
    have hda : ∀ x : EReal, Ideal.div x ⊥ = 0 := fun x => by
      unfold Ideal.div
      rw [if_neg EReal.bot_ne_zero, EReal.inv_bot, mul_zero]
    refine ⟨0, 0, le_rfl, le_rfl, ?_⟩
    rw [ha, hb, hbot, hbot, hpk]
    simp only [EReal.bot_add, hda, EReal.coe_zero, and_self]
  · have hf : a = peak p := by rw [ha]; exact order_first p _ (by rw [← ha]; exact h0)
    have hs : b = second p := by
      rw [hb]
      refine order_second p _ _ hne (by rw [← ha]; exact h0) (by rw [← hb]; exact h1) ?_
      rw [hq]
      exact_mod_cast le_trans (by norm_num : (-1 : ℝ) ≤ 0) (hn _)
    obtain ⟨A, hA, hA0⟩ : ∃ A : ℝ, a = (A : EReal) ∧ 0 < A := by
      refine ⟨q _, by rw [ha, hq], ?_⟩
      have := h0 e
      rw [ha, hq, hq] at this
      exact lt_of_lt_of_le he (by exact_mod_cast this)
    obtain ⟨B, hB, hB0⟩ : ∃ B : ℝ, b = (B : EReal) ∧ 0 ≤ B := ⟨q _, by rw [hb, hq], hn _⟩
    rw [← hf, ← hs, hA, hB, ← EReal.coe_add]
    have hAB : A + B ≠ 0 := by positivity
    rw [div_real _ _ hAB, div_real _ _ hAB]
    exact ⟨A / (A + B), B / (A + B), by positivity, by positivity, rfl, rfl, rfl, rfl⟩

end Cert.Proof.Val
-- ==== Proof.Expert.lean ====
/-
  One row through the two experts: scaling by the routing weight and by the root mean square is one real factor.
-/
module

public import proofs.«01_k».proof.Proof.Consts

@[expose] public section

noncomputable section

namespace Cert.Proof.Val

open Idealize.ShloMosaic
open scoped BigOperators

/-- The mean of a row's squares. -/
def meanSq (x : Fin 1024 → EReal) : EReal :=
  Ideal.div (∑ j, x j * x j) (Ideal.ofBits .f32 0x44800000#32)

/-- The factor the kernel multiplies a row's products by: the weight over the weighted row's root mean square. -/
def gain (w : EReal) (x : Fin 1024 → EReal) : EReal :=
  w * Ideal.rsqrt (w * w * meanSq x + Ideal.ofBits .f32 0x358637BD#32)

/-- The weighted row, normalized and scaled, as the reference has it. -/
def normed (w : EReal) (x s : Fin 1024 → EReal) (j : Fin 1024) : EReal :=
  x j * w * Ideal.rsqrt (meanSq (fun j => x j * w) + Ideal.ofBits .f32 0x358637BD#32) * s j

/-- A gated unit: the gate's argument times its logistic, times the other product. -/
def unit (g u : EReal) : EReal := g * Ideal.div 1 (1 + Ideal.exp (-g)) * u

theorem mul_self_nonneg (a : EReal) : 0 ≤ a * a := by
  rcases le_total 0 a with h | h
  · exact EReal.mul_nonneg h h
  · rw [← neg_mul_neg]
    have : 0 ≤ -a := EReal.neg_nonneg.mpr h
    exact EReal.mul_nonneg this this

theorem meanSq_eq (x : Fin 1024 → EReal) : meanSq x = (∑ j, x j * x j) * (((1024 : ℝ)⁻¹ : ℝ) : EReal) := by
  unfold meanSq Ideal.div
  rw [word_1024, if_neg (by exact_mod_cast (by norm_num : (1024 : ℝ) ≠ 0)), EReal.coe_inv]

theorem meanSq_nonneg (x : Fin 1024 → EReal) : 0 ≤ meanSq x := by
  rw [meanSq_eq]
  refine EReal.mul_nonneg (Finset.sum_nonneg fun j _ => mul_self_nonneg (x j)) ?_
  exact_mod_cast (by norm_num : (0 : ℝ) ≤ (1024 : ℝ)⁻¹)

/-- The weighted row's mean of squares: the weight's square comes out. -/
theorem meanSq_weighted (w : ℝ) (x : Fin 1024 → EReal) :
    meanSq (fun j => x j * (w : EReal)) = (w : EReal) * (w : EReal) * meanSq x := by
  rw [meanSq_eq, meanSq_eq, ← mul_assoc]
  congr 1
  rw [← EReal.coe_mul, real_mul_sum _ (_root_.mul_self_nonneg w), EReal.coe_mul]
  exact Finset.sum_congr rfl fun j _ => mul_mul_mul_comm _ _ _ _ |>.trans (mul_comm _ _)

/-- The reciprocal root of a sum with the small constant is a real, not negative; zero at the top. -/
theorem rsqrt_shift (t : EReal) (ht : 0 ≤ t) :
    ∃ r : ℝ, 0 ≤ r ∧ Ideal.rsqrt (t + Ideal.ofBits .f32 0x358637BD#32) = (r : EReal) ∧ (t = ⊤ → r = 0) := by
  obtain ⟨e, he, hw⟩ := word_eps
  rw [hw]
  induction t using EReal.rec with
  | bot => exact absurd ht (by simp)
  | coe a =>
    have ha : 0 ≤ a := by exact_mod_cast ht
    have hp : 0 < a + e := by positivity
    refine ⟨(Real.sqrt (a + e))⁻¹, by positivity, ?_, fun h => absurd h (EReal.coe_ne_top _)⟩
    rw [← EReal.coe_add]
    show (if a + e < 0 then ⊥ else if a + e = 0 then ⊤ else (((Real.sqrt (a + e))⁻¹ : ℝ) : EReal)) = _
    rw [if_neg hp.not_gt, if_neg hp.ne']
  | top =>
    refine ⟨0, le_rfl, ?_, fun _ => rfl⟩
    rw [EReal.top_add_coe]
    rfl

/-- A row with an infinite entry has an infinite mean of squares. -/
theorem meanSq_top (x : Fin 1024 → EReal) (j : Fin 1024) (h : x j = ⊤ ∨ x j = ⊥) : meanSq x = ⊤ := by
  have hj : x j * x j = ⊤ := by rcases h with h | h <;> rw [h] <;> rfl
  have hs : ∑ j, x j * x j = ⊤ := by
    have := Finset.single_le_sum (f := fun j => x j * x j) (fun i _ => mul_self_nonneg (x i)) (Finset.mem_univ j)
    rw [hj] at this
    exact top_le_iff.mp this
  rw [meanSq_eq, hs]
  exact EReal.top_mul_coe_of_pos (by norm_num)

/-- What the gain is: a real, not negative; zero when the row has an infinite entry. -/
theorem gain_real (w : ℝ) (hw : 0 ≤ w) (x : Fin 1024 → EReal) :
    ∃ c : ℝ, 0 ≤ c ∧ gain (w : EReal) x = (c : EReal) ∧ ((∃ j, x j = ⊤ ∨ x j = ⊥) → c = 0)
      ∧ ∀ s : Fin 1024 → EReal, ∀ j, normed (w : EReal) x s j = (c : EReal) * (x j * s j) := by
  have ht : 0 ≤ (w : EReal) * (w : EReal) * meanSq x := EReal.mul_nonneg (mul_self_nonneg _) (meanSq_nonneg x)
  obtain ⟨r, hr, hre, hrt⟩ := rsqrt_shift _ ht
  refine ⟨w * r, mul_nonneg hw hr, ?_, ?_, fun s j => ?_⟩
  · unfold gain; rw [hre, EReal.coe_mul]
  · rintro ⟨j, hj⟩
    rcases hw.eq_or_lt with h | h
    · rw [← h, zero_mul]
    · rw [hrt, mul_zero]
      rw [meanSq_top x j hj, ← EReal.coe_mul]
      exact EReal.coe_mul_top_of_pos (by positivity)
  · unfold normed
    rw [meanSq_weighted, hre, EReal.coe_mul]
    ac_rfl

/-- The factor times the scaled row's product with a column of reals is a real, the reference's product. -/
theorem product (w : ℝ) (hw : 0 ≤ w) (x : Fin 1024 → EReal) (s g : Fin 1024 → ℝ) :
    ∃ t : ℝ, gain (w : EReal) x * ∑ j, x j * (s j : EReal) * (g j : EReal) = (t : EReal)
      ∧ ∑ j, normed (w : EReal) x (fun j => (s j : EReal)) j * (g j : EReal) = (t : EReal) := by
  obtain ⟨c, hc, hce, hc0, hn⟩ := gain_real w hw x
  have hsum : ∑ j, normed (w : EReal) x (fun j => (s j : EReal)) j * (g j : EReal)
      = gain (w : EReal) x * ∑ j, x j * (s j : EReal) * (g j : EReal) := by
    rw [hce, real_mul_sum _ hc]
    exact Finset.sum_congr rfl fun j _ => by rw [hn, mul_assoc]
  rw [hsum]
  simp only [and_self]
  by_cases h : ∃ j, x j = ⊤ ∨ x j = ⊥
  · exact ⟨0, by rw [hce, hc0 h, EReal.coe_zero, zero_mul]⟩
  · have hx : ∀ j, ∃ a : ℝ, x j = (a : EReal) := fun j =>
      exists_real (fun e => h ⟨j, .inl e⟩) (fun e => h ⟨j, .inr e⟩)
    choose a ha using hx
    refine ⟨c * ∑ j, a j * s j * g j, ?_⟩
    rw [hce, EReal.coe_mul, ← sum_real]
    simp only [ha, EReal.coe_mul]

/-- The gated unit of one expert, the same on both sides and a real. -/
theorem unit_eq (w : ℝ) (hw : 0 ≤ w) (x : Fin 1024 → EReal) (s g u : Fin 1024 → ℝ) (bg bu : ℝ) :
    ∃ t : ℝ, unit (gain (w : EReal) x * (∑ j, x j * (s j : EReal) * (g j : EReal)) + (bg : EReal))
        (gain (w : EReal) x * (∑ j, x j * (s j : EReal) * (u j : EReal)) + (bu : EReal)) = (t : EReal)
      ∧ unit ((∑ j, normed (w : EReal) x (fun j => (s j : EReal)) j * (g j : EReal)) + (bg : EReal))
        ((∑ j, normed (w : EReal) x (fun j => (s j : EReal)) j * (u j : EReal)) + (bu : EReal)) = (t : EReal) := by
  obtain ⟨p, hp, hp'⟩ := product w hw x s g
  obtain ⟨q, hq, hq'⟩ := product w hw x s u
  rw [hp, hp', hq, hq', ← EReal.coe_add, ← EReal.coe_add]
  obtain ⟨l, hl⟩ := logistic_real (p + bg)
  refine ⟨(p + bg) * l * (q + bu), ?_⟩
  unfold unit
  rw [hl, EReal.coe_mul, EReal.coe_mul]
  exact ⟨rfl, rfl⟩

/-! ## The two experts' output -/

/-- The output before trip `k`: eleven blocks of 256 hidden units are added one after another. -/
def blocks (b : EReal) (f : Fin 2816 → EReal) : ℕ → EReal
  | 0 => b
  | k + 1 => if h : k < 11 then blocks b f k + ∑ l : Fin 256, f ⟨k * 256 + l.val, by omega⟩ else blocks b f k

theorem blocks_eq (b : EReal) (f : Fin 2816 → EReal) : blocks b f 11 = b + ∑ n, f n := by
  have h : ∀ k (hk : k ≤ 11), blocks b f k
      = b + ∑ j : Fin k, ∑ l : Fin 256, f ⟨j.val * 256 + l.val, by have := j.isLt; have := l.isLt; omega⟩ := by
    intro k
    induction k with
    | zero => intro _; rw [Fin.sum_univ_zero, add_zero]; rfl
    | succ k ih =>
      intro hk
      rw [Fin.sum_univ_castSucc, ← add_assoc, blocks, dif_pos (by omega), ih (by omega)]
      rfl
  rw [h 11 le_rfl, Fin.sum_univ_tiles 11 256 (by norm_num) f]

/-- Both experts together, and one after the other. -/
theorem output_eq (b : EReal) (a1 a2 wo : Fin 2816 → ℝ) :
    blocks (((2 : ℝ) : EReal) * b) (fun n => ((a1 n : EReal) + (a2 n : EReal)) * (wo n : EReal)) 11
      = ((∑ n, (a1 n : EReal) * (wo n : EReal)) + b) + ((∑ n, (a2 n : EReal) * (wo n : EReal)) + b) := by
  have h : ∀ n, ((a1 n : EReal) + (a2 n : EReal)) * (wo n : EReal) = (a1 n : EReal) * (wo n : EReal) + (a2 n : EReal) * (wo n : EReal) := by
    intro n
    rw [← EReal.coe_add, ← EReal.coe_mul, ← EReal.coe_mul, ← EReal.coe_mul, ← EReal.coe_add, add_mul]
  rw [blocks_eq, two_mul_self, Finset.sum_congr rfl fun n _ => h n, Finset.sum_add_distrib, add_comm (b + b)]
  exact add_add_add_comm _ _ _ _

end Cert.Proof.Val
-- ==== Proof.KernelValue.lean ====
/-
  The kernel's two results, entry by entry, over the extended reals.
-/
module

public import proofs.«01_k».proof.Proof.Host
public import proofs.«01_k».proof.Proof.Router
public import proofs.«01_k».proof.Proof.Expert

@[expose] public section

set_option maxRecDepth 16384

noncomputable section

namespace Cert.Proof.Pipe

open Cert.KernelIdeal Cert.KernelIdeal.Gen Cert.Proof.Val
open Idealize.ShloMosaic Idealize.ShloMosaic.TcCoe
open scoped BigOperators

/-- A fold of the greatest from the lowest value. -/
theorem fold_max (f : Fin 8 → EReal) : Finset.univ.fold max (Ideal.ofBits .f32 0xFF800000#32) f = peak f := by
  rw [word_neg_inf]; rfl

/-! ## The router -/

section Router
variable (x : Vec Ideal S2048x1024 .f32) (wr : Vec Ideal S1024x8 .f32)

/-- A row of the input. -/
def rowOf (r : Fin 2048) (j : Fin 1024) : EReal := x (ix2 r j)
/-- A row's logits, and their softmax. -/
def logitsOf (r : Fin 2048) (e : Fin 8) : EReal := ∑ k : Fin 1024, x (ix2 r k) * wr (ix2 k e)
def probsOf (r : Fin 2048) : Fin 8 → EReal := soft (logitsOf x wr r)
/-- A row's two routing weights. -/
def wOne (r : Fin 2048) : EReal := Ideal.div (peak (probsOf x wr r)) (peak (probsOf x wr r) + second (probsOf x wr r))
def wTwo (r : Fin 2048) : EReal := Ideal.div (second (probsOf x wr r)) (peak (probsOf x wr r) + second (probsOf x wr r))

theorem pay5_apply (r : Fin 2048) : k0_pay5 x (ix2 r 0) = meanSq (rowOf x r) := by
  pointwise [k0_pay5, k0_pay4]
  rfl

theorem pay6_apply (r : Fin 2048) (e : Fin 8) : k0_pay6 x wr (ix2 r e) = probsOf x wr r e := by
  pointwise [k0_pay6, k0_pay4]
  simp only [fold_max]
  rfl

theorem pay7_apply (r : Fin 2048) : k0_pay7 x wr (ix2 r 0) = peak (probsOf x wr r) := by
  pointwise [k0_pay7]
  simp only [pay6_apply, fold_max]

theorem select_eq {α : Type} (a b : BitVec 32) (s t : α) : Scalar.select (IntOp.cmpi .eq a b) s t = if a = b then s else t := by
  by_cases h : a = b
  · subst h; rw [if_pos rfl]; simp [Scalar.select, IntOp.cmpi]
  · rw [if_neg h]; simp [Scalar.select, IntOp.cmpi, beq_eq_false_iff_ne.2 h]

theorem pay8_apply (r : Fin 2048) : k0_pay8 x wr (ix2 r 0) = second (probsOf x wr r) := by
  pointwise [k0_pay8]
  simp only [pay6_apply, pay7_apply, select_eq, word_neg_one, fold_max]
  unfold second peak firstAt
  simp only [decide_eq_true_eq]

theorem cOne_apply (r : Fin 2048) : cOne x wr (ix2 r 0) = gain (wOne x wr r) (rowOf x r) := by
  pointwise [cOne, k0_pay11, k0_pay9]
  simp only [pay5_apply, pay7_apply, pay8_apply]
  rfl

theorem cTwo_apply (r : Fin 2048) : cTwo x wr (ix2 r 0) = gain (wTwo x wr r) (rowOf x r) := by
  pointwise [cTwo, k0_pay13, k0_pay12, k0_pay10, k0_pay9]
  simp only [pay5_apply, pay7_apply, pay8_apply]
  rfl

/-- The balancing loss, from the eight columns' sums. -/
def lossOf (p : Fin 8 → EReal) : EReal :=
  - ∑ e : Fin 8, Ideal.div (p e) (Ideal.ofBits .f32 0x45000000#32)
      * Ideal.log (Ideal.div (p e) (Ideal.ofBits .f32 0x45000000#32) + Ideal.ofBits .f32 0x358637BD#32)

theorem lossVec_apply : lossVec x wr (ix2 0 0) = lossOf fun e => ∑ r : Fin 2048, probsOf x wr r e := by
  pointwise [lossVec, k0_pay15, k0_pay14]
  simp only [pay6_apply, Fin.sum_univ_one, zero_sub]
  unfold lossOf
  simp

end Router

/-! ## The experts -/

section Experts
variable (c : Dev nD)
  (XWG : Vec Ideal S1024x2816 .f32) (XBG : Vec Ideal S1x2816 .f32) (XWU : Vec Ideal S1024x2816 .f32) (XBU : Vec Ideal S1x2816 .f32)
  (XWO : Vec Ideal S2816x1024 .f32)
  (x : Vec Ideal S2048x1024 .f32) (wr : Vec Ideal S1024x8 .f32) (sc bo : Vec Ideal S1x1024 .f32)

/-- Hidden unit `n` of a row at gain `g`. -/
def hidden (g : EReal) (r : Fin 2048) (n : Fin 2816) : EReal :=
  unit (g * (∑ j : Fin 1024, x (ix2 r j) * sc (ix2 0 j) * XWG (ix2 j n)) + XBG (ix2 0 n))
    (g * (∑ j : Fin 1024, x (ix2 r j) * sc (ix2 0 j) * XWU (ix2 j n)) + XBU (ix2 0 n))

/-- Both experts' hidden unit `n` times its output row's entry. -/
def share (r : Fin 2048) (l : Fin 1024) (n : Fin 2816) : EReal :=
  (hidden XWG XBG XWU XBU x sc (gain (wOne x wr r) (rowOf x r)) r n + hidden XWG XBG XWU XBU x sc (gain (wTwo x wr r) (rowOf x r)) r n)
    * XWO (ix2 n l)

theorem xScaled_apply (r : Fin 2048) (j : Fin 1024) : xScaled x sc (ix2 r j) = x (ix2 r j) * sc (ix2 0 j) := by
  pointwise [xScaled, k0_pay16, k0_pay4]

theorem act_apply (k : Trip) (r : Fin 2048) (j : Fin 256) :
    k0_pay1 (cOne x wr) (cTwo x wr) (xScaled x sc) (wgAt c XWG k) (wuAt c XWU k) (bgAt c XBG k) (buAt c XBU k) (ix2 r j)
      = hidden XWG XBG XWU XBU x sc (gain (wOne x wr r) (rowOf x r)) r (pos k j)
        + hidden XWG XBG XWU XBU x sc (gain (wTwo x wr r) (rowOf x r)) r (pos k j) := by
  pointwise [k0_pay1]
  simp only [wgAt_apply, wuAt_apply, bgAt_apply, buAt_apply, cOne_apply, cTwo_apply, xScaled_apply]
  rfl

theorem accVec_apply (o : Vec Ideal S2048x1024 .f32) (r : Fin 2048) (l : Fin 1024) (k : ℕ) :
    accVec c XWG XBG XWU XBU XWO (cOne x wr) (cTwo x wr) (xScaled x sc) o k (ix2 r l)
      = blocks (o (ix2 r l)) (share XWG XBG XWU XBU XWO x wr sc r l) k := by
  induction k with
  | zero => rfl
  | succ k ih =>
    unfold accVec blocks
    by_cases h : k < 11
    · rw [dif_pos (trips_eq ▸ h), dif_pos h, ← ih]
      unfold stepVal
      generalize accVec c XWG XBG XWU XBU XWO (cOne x wr) (cTwo x wr) (xScaled x sc) o k = acc
      pointwise [k0_pay3, k0_pay2]
      simp only [act_apply, woAt_apply]
      rfl
    · rw [dif_neg (trips_eq ▸ h), dif_neg h, ih]

theorem outVec_apply (r : Fin 2048) (l : Fin 1024) :
    outVec c XWG XBG XWU XBU XWO x wr sc bo (ix2 r l)
      = blocks (((2 : ℝ) : EReal) * bo (ix2 0 l)) (share XWG XBG XWU XBU XWO x wr sc r l) 11 := by
  unfold outVec
  rw [accVec_apply]
  congr 1
  pointwise [k0_pay17]
  rw [word_two]

end Experts

end Cert.Proof.Pipe

end
-- ==== Proof.RefStage.lean ====
/-
  The reference's composed term in stages: the router's probabilities, the two normalized weights, one expert, the loss.
-/
module

public import proofs.«01_k».proof.Proof.Gen.ReferenceIdeal.Run

@[expose] public section

set_option maxRecDepth 16384

noncomputable section

namespace Cert.Proof.Ref

open Cert.ReferenceIdeal Cert.ReferenceIdeal.Gen
open Idealize.ShloMosaic Idealize.ShloMosaic.TcCoe Idealize.SL.Sem

variable {F : FTy → Type} [FloatOps F]

/-- The logits: each row times the router's matrix. -/
def logits (x : FVec F S1x2048x1024 .f32) (w : FVec F S1024x8 .f32) : FVec F S1x2048x8 .f32 :=
  Host.dotGeneral dot_S1x2048x1024_S1024x8_S1x2048x8_2_0_01_1_n_n none x w

/-- The exponentials of the logits less their row's greatest. -/
def powers (l : FVec F S1x2048x8 .f32) : FVec F S1x2048x8 .f32 :=
  Host.exp (subf l (broadcastInDim S1x2048x8 ![0, 1, 2] bcast_S1x2048x1_S1x2048x8_0_1_2
    (broadcastInDim S1x2048x1 ![0, 1] bcast_S1x2048_S1x2048x1_0_1
      (maximumf (broadcastInDim S1x2048 ![] bcast_S_S1x2048 (constant S_ .f32 0xFF800000#32))
        (Host.reduce FloatOps.maximumf l (constant S_ .f32 0xFF800000#32) reducesTo_S1x2048x8_S1x2048_d2 h_S_)))))

/-- The probabilities: the exponentials over their row's sum. -/
def probs (e : FVec F S1x2048x8 .f32) : FVec F S1x2048x8 .f32 :=
  Host.divf e (broadcastInDim S1x2048x8 ![0, 1, 2] bcast_S1x2048x1_S1x2048x8_0_1_2
    (broadcastInDim S1x2048x1 ![0, 1] bcast_S1x2048_S1x2048x1_0_1
      (Host.reduceAdd e (constant S_ .f32 0x00000000#32) reducesTo_S1x2048x8_S1x2048_d2 h_S_)))

/-- Each row's two greatest probabilities. -/
def top (p : FVec F S1x2048x8 .f32) : FVec F S1x2048x2 .f32 :=
  (Host.topK S1x2048x2 2 (FloatOps.cmpfTotal .gt) p sliceFits_S1x2048x8_S1x2048x2).1

/-- The two, over their sum. -/
def share (v : FVec F S1x2048x2 .f32) : FVec F S1x2048x2 .f32 :=
  Host.divf v (broadcastInDim S1x2048x2 ![0, 1, 2] bcast_S1x2048x1_S1x2048x2_0_1_2
    (broadcastInDim S1x2048x1 ![0, 1] bcast_S1x2048_S1x2048x1_0_1
      (Host.reduceAdd v (constant S_ .f32 0x00000000#32) reducesTo_S1x2048x2_S1x2048_d2 h_S_)))

/-- A row times its routing weight. -/
def weighed (x : FVec F S1x2048x1024 .f32) (w : FVec F S1x2048x1 .f32) : FVec F S1x2048x1024 .f32 :=
  mulf x (broadcastInDim S1x2048x1024 ![0, 1, 2] bcast_S1x2048x1_S1x2048x1024_0_1_2 w)

/-- The normalization: a row over its root mean square, times the scale. -/
def normal (h : FVec F S1x2048x1024 .f32) (s : FVec F S1024 .f32) : FVec F S1x2048x1024 .f32 :=
  mulf (mulf h (broadcastInDim S1x2048x1024 ![0, 1, 2] bcast_S1x2048x1_S1x2048x1024_0_1_2
      (Host.rsqrt (addf (Host.divf (broadcastInDim S1x2048x1 ![0, 1] bcast_S1x2048_S1x2048x1_0_1
          (Host.reduceAdd (mulf h h) (constant S_ .f32 0x00000000#32) reducesTo_S1x2048x1024_S1x2048_d2 h_S_))
          (broadcastInDim S1x2048x1 ![] bcast_S_S1x2048x1 (constant S_ .f32 0x44800000#32)))
        (broadcastInDim S1x2048x1 ![] bcast_S_S1x2048x1 (constant S_ .f32 0x358637BD#32))))))
    (broadcastInDim S1x2048x1024 ![0, 1, 2] bcast_S1x1x1024_S1x2048x1024_0_1_2 (broadcastInDim S1x1x1024 ![2] bcast_S1024_S1x1x1024_2 s))

/-- A layer into the hidden units: a matrix and a bias. -/
def layer (h : FVec F S1x2048x1024 .f32) (w : FVec F S1024x2816 .f32) (b : FVec F S2816 .f32) : FVec F S1x2048x2816 .f32 :=
  addf (Host.dotGeneral dot_S1x2048x1024_S1024x2816_S1x2048x2816_2_0_01_1_n_n none h w)
    (broadcastInDim S1x2048x2816 ![0, 1, 2] bcast_S1x1x2816_S1x2048x2816_0_1_2 (broadcastInDim S1x1x2816 ![2] bcast_S2816_S1x1x2816_2 b))

/-- The gate: a value times its logistic, times the other layer's. -/
def gated (g u : FVec F S1x2048x2816 .f32) : FVec F S1x2048x2816 .f32 :=
  mulf (mulf g (Host.divf (broadcastInDim S1x2048x2816 ![] bcast_S_S1x2048x2816 (constant S_ .f32 0x3F800000#32))
    (addf (broadcastInDim S1x2048x2816 ![] bcast_S_S1x2048x2816 (constant S_ .f32 0x3F800000#32)) (Host.exp (Host.negf g))))) u

/-- The layer out of the hidden units. -/
def outer (h : FVec F S1x2048x2816 .f32) (w : FVec F S2816x1024 .f32) (b : FVec F S1024 .f32) : FVec F S1x2048x1024 .f32 :=
  addf (Host.dotGeneral dot_S1x2048x2816_S2816x1024_S1x2048x1024_2_0_01_1_n_n none h w)
    (broadcastInDim S1x2048x1024 ![0, 1, 2] bcast_S1x1x1024_S1x2048x1024_0_1_2 (broadcastInDim S1x1x1024 ![2] bcast_S1024_S1x1x1024_2 b))

/-- One expert on a normalized row. -/
def expert (n : FVec F S1x2048x1024 .f32) (wg : FVec F S1024x2816 .f32) (bg : FVec F S2816 .f32) (wu : FVec F S1024x2816 .f32)
    (bu : FVec F S2816 .f32) (wo : FVec F S2816x1024 .f32) (bo : FVec F S1024 .f32) : FVec F S1x2048x1024 .f32 :=
  outer (gated (layer n wg bg) (layer n wu bu)) wo bo

/-- The experts' mean probabilities. -/
def usage (p : FVec F S1x2048x8 .f32) : FVec F S8 .f32 :=
  Host.divf (Host.reduceAdd p (constant S_ .f32 0x00000000#32) reducesTo_S1x2048x8_S8_d0_1 h_S_)
    (broadcastInDim S8 ![] bcast_S_S8 (constant S_ .f32 0x45000000#32))

/-- The balancing loss of the mean probabilities. -/
def loss (u : FVec F S8 .f32) : FVec F S_ .f32 :=
  Host.negf (Host.reduceAdd (mulf u (Host.log (addf u (broadcastInDim S8 ![] bcast_S_S8 (constant S_ .f32 0x358637BD#32)))))
    (constant S_ .f32 0x00000000#32) reducesTo_S8_S_d0 h_S_)

/-- The probabilities of the first two arrays. -/
def probsOf (a0 : FVec F S1x2048x1024 .f32) (a1 : FVec F S1024x8 .f32) : FVec F S1x2048x8 .f32 := probs (powers (logits a0 a1))

section Arrays
variable (a0 : FVec F S1x2048x1024 .f32) (a1 : FVec F S1024x8 .f32) (a2 : FVec F S1024 .f32) (a3 : FVec F S1024x2816 .f32) (a4 : FVec F S2816 .f32)
  (a5 : FVec F S1024x2816 .f32) (a6 : FVec F S2816 .f32) (a7 : FVec F S2816x1024 .f32) (a8 : FVec F S1024 .f32)

/-- One expert of the arrays, at a weight. -/
def expertOf (w : FVec F S1x2048x1 .f32) : FVec F S1x2048x1024 .f32 := expert (normal (weighed a0 w) a2) a3 a4 a5 a6 a7 a8

/-- The first result: the two experts, added. -/
def outOf : FVec F S1x2048x1024 .f32 :=
  addf (expertOf a0 a2 a3 a4 a5 a6 a7 a8 (extractStridedSlice S1x2048x1 ![0, 0, 0] (share (top (probsOf a0 a1))) slices_S1x2048x2_S1x2048x1_0_0_0))
    (expertOf a0 a2 a3 a4 a5 a6 a7 a8 (extractStridedSlice S1x2048x1 ![0, 0, 1] (share (top (probsOf a0 a1))) slices_S1x2048x2_S1x2048x1_0_0_1))

end Arrays

theorem out_staged (m : (ℓ : Loc nD τ sig) → Buf (Elt F) ℓ) (c : Dev nD) : Value.res_main_v76 m c
    = outOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_main_v76; rfl

end Cert.Proof.Ref

end
-- ==== Proof.RefValue.lean ====
/-
  The reference's two results, entry by entry, over the extended reals.
-/
module

public import proofs.«01_k».proof.Proof.RefStage
public import proofs.«01_k».proof.Proof.KernelValue
public import Idealize.ShloMosaic.Lib.Pointwise

@[expose] public section

set_option maxRecDepth 16384

noncomputable section

namespace Cert.Proof.Ref

open Cert.ReferenceIdeal Cert.ReferenceIdeal.Gen Cert.Proof.Val
open Idealize.ShloMosaic Idealize.ShloMosaic.TcCoe
open scoped BigOperators

/-! ## The router -/

theorem logits_apply (x : FVec Ideal S1x2048x1024 .f32) (w : FVec Ideal S1024x8 .f32) (r : Fin 2048) (e : Fin 8) :
    logits x w (ix3 0 r e) = ∑ k : Fin 1024, x (ix3 0 r k) * w (ix2 k e) := by
  pointwise [logits]

theorem powers_apply (l : FVec Ideal S1x2048x8 .f32) (r : Fin 2048) (e : Fin 8) :
    powers l (ix3 0 r e) = Ideal.exp (l (ix3 0 r e) - peak fun i => l (ix3 0 r i)) := by
  pointwise [powers]
  rw [Pipe.fold_max, word_neg_inf, max_bot_left]

theorem probs_apply (p : FVec Ideal S1x2048x8 .f32) (r : Fin 2048) (e : Fin 8) :
    probs p (ix3 0 r e) = Ideal.div (p (ix3 0 r e)) (∑ i, p (ix3 0 r i)) := by
  pointwise [probs]

theorem top_apply (p : FVec Ideal S1x2048x8 .f32) (r : Fin 2048) (i : Fin 2) :
    top p (ix3 0 r i) = p (ix3 0 r (sortedFrom (fun a b => decide (p (ix3 0 r b) < p (ix3 0 r a))) (Fin.castLE (by decide) i))) := by
  have hal : ∀ q k : Fin 8, Shape.Idx.along (s := S1x2048x8) (ix3 0 r q) (2 : Fin 3) k = ix3 0 r k := fun q k => by
    funext a
    match a with
    | ⟨0, _⟩ | ⟨1, _⟩ | ⟨2, _⟩ => rfl
  have hsl : ∀ V : FVec Ideal S1x2048x8 .f32,
      extractStridedSlice S1x2048x2 (fun _ => 0) V sliceFits_S1x2048x8_S1x2048x2 (ix3 0 r i) = V (ix3 0 r (Fin.castLE (by decide) i)) := fun V => by
    refine congrArg V (funext fun a => ?_)
    match a with
    | ⟨0, _⟩ | ⟨1, _⟩ | ⟨2, _⟩ => exact Fin.ext (by simp [ix3])
  refine (hsl fun j => p (Shape.Idx.along (s := S1x2048x8) j (2 : Fin 3) (sortedFrom (fun k k' : Fin 8 =>
    (Ideal.cmp .ogt (p (Shape.Idx.along (s := S1x2048x8) j (2 : Fin 3) k)) (p (Shape.Idx.along (s := S1x2048x8) j (2 : Fin 3) k')) == 1#1)) (j 2)))).trans
    ((congrArg p (hal _ _)).trans ?_)
  refine congrArg (fun q => p (ix3 0 r (sortedFrom q (Fin.castLE (by decide) i)))) (funext fun a => funext fun b => ?_)
  show (Ideal.cmp .ogt (p (Shape.Idx.along (s := S1x2048x8) (ix3 0 r _) (2 : Fin 3) a))
    (p (Shape.Idx.along (s := S1x2048x8) (ix3 0 r _) (2 : Fin 3) b)) == 1#1) = _
  rw [hal, hal]
  show (BitVec.ofBool (decide (p (ix3 0 r b) < p (ix3 0 r a))) == 1#1) = _
  by_cases h : p (ix3 0 r b) < p (ix3 0 r a) <;> simp [h]

theorem share_apply (v : FVec Ideal S1x2048x2 .f32) (r : Fin 2048) (i : Fin 2) :
    share v (ix3 0 r i) = Ideal.div (v (ix3 0 r i)) (v (ix3 0 r 0) + v (ix3 0 r 1)) := by
  pointwise [share]
  rw [Fin.sum_univ_two]

theorem first_apply (v : FVec Ideal S1x2048x2 .f32) (r : Fin 2048) :
    extractStridedSlice S1x2048x1 ![0, 0, 0] v slices_S1x2048x2_S1x2048x1_0_0_0 (ix3 0 r 0) = v (ix3 0 r 0) := by
  pointwise []
theorem second_apply (v : FVec Ideal S1x2048x2 .f32) (r : Fin 2048) :
    extractStridedSlice S1x2048x1 ![0, 0, 1] v slices_S1x2048x2_S1x2048x1_0_0_1 (ix3 0 r 0) = v (ix3 0 r 1) := by
  pointwise []

/-! ## The experts -/

theorem weighed_apply (x : FVec Ideal S1x2048x1024 .f32) (w : FVec Ideal S1x2048x1 .f32) (r : Fin 2048) (j : Fin 1024) :
    weighed x w (ix3 0 r j) = x (ix3 0 r j) * w (ix3 0 r 0) := by
  pointwise [weighed]

theorem normal_apply (h : FVec Ideal S1x2048x1024 .f32) (s : FVec Ideal S1024 .f32) (r : Fin 2048) (j : Fin 1024) :
    normal h s (ix3 0 r j) = h (ix3 0 r j) * Ideal.rsqrt (meanSq (fun j => h (ix3 0 r j)) + Ideal.ofBits .f32 0x358637BD#32) * s (ix1 j) := by
  pointwise [normal]
  rfl

theorem layer_apply (h : FVec Ideal S1x2048x1024 .f32) (w : FVec Ideal S1024x2816 .f32) (b : FVec Ideal S2816 .f32) (r : Fin 2048) (n : Fin 2816) :
    layer h w b (ix3 0 r n) = ∑ j : Fin 1024, h (ix3 0 r j) * w (ix2 j n) + b (ix1 n) := by
  pointwise [layer]

theorem gated_apply (g u : FVec Ideal S1x2048x2816 .f32) (r : Fin 2048) (n : Fin 2816) :
    gated g u (ix3 0 r n) = unit (g (ix3 0 r n)) (u (ix3 0 r n)) := by
  pointwise [gated]
  rfl

theorem outer_apply (h : FVec Ideal S1x2048x2816 .f32) (w : FVec Ideal S2816x1024 .f32) (b : FVec Ideal S1024 .f32) (r : Fin 2048) (l : Fin 1024) :
    outer h w b (ix3 0 r l) = ∑ n : Fin 2816, h (ix3 0 r n) * w (ix2 n l) + b (ix1 l) := by
  pointwise [outer]

/-! ## The loss -/

theorem usage_apply (p : FVec Ideal S1x2048x8 .f32) (e : Fin 8) :
    usage p (ix1 e) = Ideal.div (∑ r : Fin 2048, p (ix3 0 r e)) (Ideal.ofBits .f32 0x45000000#32) := by
  have fiber : ∀ i : S1x2048x8.Idx, reducesTo_S1x2048x8_S8_d0_1.drop i = ix1 e ↔ ∃ r : Fin 2048, ix3 0 r e = i := fun i => by
    constructor
    · intro hd
      have he : i 2 = e := Fin.ext (congrArg Fin.val (congrFun hd 0))
      refine ⟨i 1, funext fun a => Fin.ext ?_⟩
      match a with
      | ⟨0, _⟩ => exact (Nat.lt_one_iff.1 (i 0).isLt).symm
      | ⟨1, _⟩ => rfl
      | ⟨2, _⟩ => exact congrArg Fin.val he.symm
    · rintro ⟨r, rfl⟩
      funext b
      match b with
      | ⟨0, _⟩ => rfl
  have sums : Ideal.hostReduceAdd reducesTo_S1x2048x8_S8_d0_1 p 0 (ix1 e) = ∑ r : Fin 2048, p (ix3 0 r e) := by
    unfold Ideal.hostReduceAdd
    rw [zero_add]
    exact Finset.sum_filter_eq_sum_of_fiber _ (fun r : Fin 2048 => (ix3 0 r e : S1x2048x8.Idx)) (fun _ _ h => congrFun h 1) fiber p
  pointwise [usage]
  rw [sums]

theorem loss_apply (u : FVec Ideal S8 .f32) (i : S_.Idx) :
    loss u i = - ∑ e : Fin 8, u (ix1 e) * Ideal.log (u (ix1 e) + Ideal.ofBits .f32 0x358637BD#32) := by
  pointwise [loss]

end Cert.Proof.Ref

end
-- ==== Proof.Equation.lean ====
/-
  The two programs' results are equal: entry by entry, from the closed forms of the two sides.
-/
module

public import proofs.«01_k».proof.Proof.KernelValue
public import proofs.«01_k».proof.Proof.RefValue

@[expose] public section

set_option maxRecDepth 16384

noncomputable section

namespace Cert.Proof.Eqn

open Cert.KernelIdeal Cert.KernelIdeal.Gen Cert.Proof.Val
open Idealize.ShloMosaic Idealize.ShloMosaic.TcCoe
open scoped BigOperators

variable (a0 : FVec Ideal S1x2048x1024 .f32) (a1 : FVec Ideal S1024x8 .f32) (a2 : FVec Ideal S1024 .f32) (a3 : FVec Ideal S1024x2816 .f32)
  (a4 : FVec Ideal S2816 .f32) (a5 : FVec Ideal S1024x2816 .f32) (a6 : FVec Ideal S2816 .f32) (a7 : FVec Ideal S2816x1024 .f32)
  (a8 : FVec Ideal S1024 .f32)

/-! ## The arrays as the kernel stages them -/

def X : Vec Ideal S2048x1024 .f32 := shapeCast S2048x1024 a0 shapeCasts_S1x2048x1024_S2048x1024
def Row (a : FVec Ideal S1024 .f32) : Vec Ideal S1x1024 .f32 := shapeCast S1x1024 a shapeCasts_S1024_S1x1024
def Wide (a : FVec Ideal S2816 .f32) : Vec Ideal S1x2816 .f32 := shapeCast S1x2816 a shapeCasts_S2816_S1x2816

theorem X_apply (r : Fin 2048) (j : Fin 1024) : X a0 (ix2 r j) = a0 (ix3 0 r j) := by pointwise [X]
theorem Row_apply (a : FVec Ideal S1024 .f32) (j : Fin 1024) : Row a (ix2 0 j) = a (ix1 j) := by pointwise [Row]
theorem Wide_apply (a : FVec Ideal S2816 .f32) (n : Fin 2816) : Wide a (ix2 0 n) = a (ix1 n) := by pointwise [Wide]

/-! ## The router -/

/-- The two sides' probabilities are the same softmax. -/
theorem probs_eq (r : Fin 2048) : Pipe.probsOf (X a0) a1 r = fun e => Ref.probsOf a0 a1 (ix3 0 r e) := by
  funext e
  unfold Ref.probsOf Pipe.probsOf soft Pipe.logitsOf
  simp only [Ref.probs_apply, Ref.powers_apply, Ref.logits_apply, X_apply]

/-- The two sides' routing weights are the same two reals, not negative. -/
theorem weights_eq (r : Fin 2048) : ∃ u v : ℝ, 0 ≤ u ∧ 0 ≤ v
    ∧ Ref.share (Ref.top (Ref.probsOf a0 a1)) (ix3 0 r 0) = (u : EReal) ∧ Ref.share (Ref.top (Ref.probsOf a0 a1)) (ix3 0 r 1) = (v : EReal)
    ∧ Pipe.wOne (X a0) a1 r = (u : EReal) ∧ Pipe.wTwo (X a0) a1 r = (v : EReal) := by
  rw [Ref.share_apply, Ref.share_apply]
  unfold Pipe.wOne Pipe.wTwo
  rw [probs_eq]
  exact weights (fun e => Ref.probsOf a0 a1 (ix3 0 r e)) (probs_eq a0 a1 r ▸ good_soft _) _ _
    (Ref.top_apply _ r 0) (Ref.top_apply _ r 1)

/-- The loss. -/
theorem loss_eq : shapeCast S_ (Pipe.lossVec (X a0) a1) shapeCasts_S1x1_S_ = Ref.loss (Ref.usage (Ref.probsOf a0 a1)) := by
  funext i
  have h : shapeCast S_ (Pipe.lossVec (X a0) a1) shapeCasts_S1x1_S_ i = Pipe.lossVec (X a0) a1 (ix2 0 0) :=
    congrArg (Pipe.lossVec (X a0) a1) (funext fun b => Fin.ext (by
      match b with
      | ⟨0, _⟩ => exact Nat.lt_one_iff.1 (Fin.isLt _)
      | ⟨1, _⟩ => exact Nat.lt_one_iff.1 (Fin.isLt _)))
  rw [h, Pipe.lossVec_apply, Ref.loss_apply]
  unfold Pipe.lossOf
  simp only [Ref.usage_apply, probs_eq]

/-! ## The experts -/

/-- One expert of the reference at an entry. -/
theorem expert_apply (w : FVec Ideal Cert.ReferenceIdeal.S1x2048x1 .f32) (r : Fin 2048) (l : Fin 1024) :
    Ref.expertOf a0 a2 a3 a4 a5 a6 a7 a8 w (ix3 0 r l)
      = ∑ n : Fin 2816, unit ((∑ j, normed (w (ix3 0 r 0)) (fun j => a0 (ix3 0 r j)) (fun j => a2 (ix1 j)) j * a3 (ix2 j n)) + a4 (ix1 n))
          ((∑ j, normed (w (ix3 0 r 0)) (fun j => a0 (ix3 0 r j)) (fun j => a2 (ix1 j)) j * a5 (ix2 j n)) + a6 (ix1 n)) * a7 (ix2 n l) + a8 (ix1 l) := by
  unfold Ref.expertOf Ref.expert
  simp only [Ref.outer_apply, Ref.gated_apply, Ref.layer_apply, Ref.normal_apply, Ref.weighed_apply]
  rfl

/-- One hidden unit: a real, on both sides. -/
theorem hidden_eq {s : S1024.Idx → ℝ} {g u : S1024x2816.Idx → ℝ} {bg bu : S2816.Idx → ℝ} (hs : ∀ i, a2 i = (s i : EReal))
    (hg : ∀ i, a3 i = (g i : EReal)) (hbg : ∀ i, a4 i = (bg i : EReal)) (hu : ∀ i, a5 i = (u i : EReal)) (hbu : ∀ i, a6 i = (bu i : EReal))
    (w : ℝ) (hw : 0 ≤ w) (r : Fin 2048) (n : Fin 2816) :
    ∃ t : ℝ, Pipe.hidden a3 (Wide a4) a5 (Wide a6) (X a0) (Row a2) (gain (w : EReal) (Pipe.rowOf (X a0) r)) r n = (t : EReal)
      ∧ unit ((∑ j, normed (w : EReal) (fun j => a0 (ix3 0 r j)) (fun j => a2 (ix1 j)) j * a3 (ix2 j n)) + a4 (ix1 n))
          ((∑ j, normed (w : EReal) (fun j => a0 (ix3 0 r j)) (fun j => a2 (ix1 j)) j * a5 (ix2 j n)) + a6 (ix1 n)) = (t : EReal) := by
  have hrow : Pipe.rowOf (X a0) r = fun j => a0 (ix3 0 r j) := funext fun j => X_apply a0 r j
  unfold Pipe.hidden
  rw [hrow]
  simp only [X_apply, Row_apply, Wide_apply, hs, hg, hbg, hu, hbu]
  exact unit_eq w hw (fun j => a0 (ix3 0 r j)) (fun j => s (ix1 j)) (fun j => g (ix2 j n)) (fun j => u (ix2 j n)) (bg (ix1 n)) (bu (ix1 n))

/-- The output. -/
theorem out_eq (c : Dev nD) (hs : ∀ i, ∃ r : ℝ, a2 i = (r : EReal)) (hg : ∀ i, ∃ r : ℝ, a3 i = (r : EReal))
    (hbg : ∀ i, ∃ r : ℝ, a4 i = (r : EReal)) (hu : ∀ i, ∃ r : ℝ, a5 i = (r : EReal)) (hbu : ∀ i, ∃ r : ℝ, a6 i = (r : EReal))
    (ho : ∀ i, ∃ r : ℝ, a7 i = (r : EReal)) :
    shapeCast S1x2048x1024 (Pipe.outVec c a3 (Wide a4) a5 (Wide a6) a7 (X a0) a1 (Row a2) (Row a8)) shapeCasts_S2048x1024_S1x2048x1024
      = Ref.outOf a0 a1 a2 a3 a4 a5 a6 a7 a8 := by
  choose s hs using hs
  choose g hg using hg
  choose bg hbg using hbg
  choose u hu using hu
  choose bu hbu using hbu
  choose o ho using ho
  have entry : ∀ (r : Fin 2048) (l : Fin 1024),
      Pipe.outVec c a3 (Wide a4) a5 (Wide a6) a7 (X a0) a1 (Row a2) (Row a8) (ix2 r l) = Ref.outOf a0 a1 a2 a3 a4 a5 a6 a7 a8 (ix3 0 r l) := by
    intro r l
    obtain ⟨w1, w2, hw1, hw2, e1, e2, k1, k2⟩ := weights_eq a0 a1 r
    choose t1 p1 q1 using fun n => hidden_eq a0 a2 a3 a4 a5 a6 hs hg hbg hu hbu w1 hw1 r n
    choose t2 p2 q2 using fun n => hidden_eq a0 a2 a3 a4 a5 a6 hs hg hbg hu hbu w2 hw2 r n
    have hk : Pipe.share a3 (Wide a4) a5 (Wide a6) a7 (X a0) a1 (Row a2) r l = fun n => ((t1 n : EReal) + (t2 n : EReal)) * (o (ix2 n l) : EReal) := by
      funext n
      unfold Pipe.share
      rw [k1, k2, p1, p2, ho]
    rw [Pipe.outVec_apply, hk, output_eq, Row_apply]
    show _ = Ref.expertOf a0 a2 a3 a4 a5 a6 a7 a8 _ (ix3 0 r l) + Ref.expertOf a0 a2 a3 a4 a5 a6 a7 a8 _ (ix3 0 r l)
    rw [expert_apply, expert_apply, Ref.first_apply, Ref.second_apply, e1, e2]
    simp only [q1, q2, ho]
  have whole : ∀ (r : Fin 2048) (l : Fin 1024),
      shapeCast S1x2048x1024 (Pipe.outVec c a3 (Wide a4) a5 (Wide a6) a7 (X a0) a1 (Row a2) (Row a8)) shapeCasts_S2048x1024_S1x2048x1024 (ix3 0 r l)
        = Ref.outOf a0 a1 a2 a3 a4 a5 a6 a7 a8 (ix3 0 r l) := by
    intro r l
    rw [← entry]
    generalize Pipe.outVec c a3 (Wide a4) a5 (Wide a6) a7 (X a0) a1 (Row a2) (Row a8) = v
    pointwise []
  funext i
  have hi : i = ix3 0 (i 1) (i 2) := funext fun a => Fin.ext (by
    match a with
    | ⟨0, _⟩ => exact Nat.lt_one_iff.1 (i 0).isLt
    | ⟨1, _⟩ => rfl
    | ⟨2, _⟩ => rfl)
  rw [hi]
  exact whole (i 1) (i 2)

end Cert.Proof.Eqn

end
-- ==== Proof.Algebraic.lean ====
/-
  The value claim: under the precondition, from equal arguments, both programs end with the same two results.
-/
module

public import proofs.«01_k».proof.Defs
public import proofs.«01_k».proof.Proof.Frames
public import proofs.«01_k».proof.Proof.Pre
public import proofs.«01_k».proof.Proof.Equation

@[expose] public section

set_option maxRecDepth 16384

noncomputable section

namespace Cert.Proof

open Idealize.ShloMosaic Idealize.ShloMosaic.TcCoe Idealize.SL.Sem

section Kernel
open Cert.KernelIdeal Cert.KernelIdeal.Gen
variable (m : (ℓ : Loc nD τ sig) → Buf (Elt Ideal) ℓ) (c : Dev nD)

/-- The kernel's first result, in the arguments. -/
theorem kernel_out : Pipe.outAt m c t0_0
    = Pipe.outVec c (m ((c : Thread nD τ).loc main_arg3)) (Eqn.Wide (m ((c : Thread nD τ).loc main_arg4))) (m ((c : Thread nD τ).loc main_arg5))
      (Eqn.Wide (m ((c : Thread nD τ).loc main_arg6))) (m ((c : Thread nD τ).loc main_arg7)) (Eqn.X (m ((c : Thread nD τ).loc main_arg0)))
      (m ((c : Thread nD τ).loc main_arg1)) (Eqn.Row (m ((c : Thread nD τ).loc main_arg2))) (Eqn.Row (m ((c : Thread nD τ).loc main_arg8))) := by
  unfold Pipe.outAt Eqn.Wide Eqn.X Eqn.Row
  rw [Pipe.iblk_x, Pipe.iblk_router, Pipe.iblk_scale, Pipe.iblk_outBias, Pipe.V_x, Pipe.V_scale, Pipe.V_gateBias, Pipe.V_upBias, Pipe.V_outBias]
  rw [V_main_arg1, V_main_arg3, V_main_arg5, V_main_arg7]

/-- The kernel's second result, in the arguments. -/
theorem kernel_loss : Pipe.lossAt m c t0_0
    = Pipe.lossVec (Eqn.X (m ((c : Thread nD τ).loc main_arg0))) (m ((c : Thread nD τ).loc main_arg1)) := by
  unfold Pipe.lossAt Eqn.X
  rw [Pipe.iblk_x, Pipe.iblk_router, Pipe.V_x, V_main_arg1]

end Kernel

theorem algebraic : Cert.algebraic_KernelIdeal_ReferenceIdeal_pre_weights_finite := by
  intro m g m' g' hpre hargs
  refine ⟨fun c => shapeCast Cert.KernelIdeal.S1x2048x1024 (Pipe.outAt m c Cert.KernelIdeal.Gen.t0_0) Cert.KernelIdeal.Gen.shapeCasts_S2048x1024_S1x2048x1024,
    fun c => shapeCast Cert.KernelIdeal.S_ (Pipe.lossAt m c Cert.KernelIdeal.Gen.t0_0) Cert.KernelIdeal.Gen.shapeCasts_S1x1_S_, ?_, ?_⟩
  · exact (θ_run Cert.KernelIdeal.defs _ _).mono
      (fun _ h c => ⟨(Pipe.results m h.1 c).1, (Pipe.results m h.1 c).2, Pipe.args_kept m h.1 c⟩) (Pipe.run_main (F := Ideal) m g)
  · refine (θ_run Cert.ReferenceIdeal.defs _ _).mono (fun r h c => ⟨?_, ?_, (h c).2.2⟩) (Cert.ReferenceIdeal.Value.run (F := Ideal) m' g')
    · obtain ⟨h0, h1, h2, h3, h4, h5, h6, h7, h8⟩ := hargs c
      obtain ⟨p2, p3, p4, p5, p6, p7⟩ := Pre.reals _ _ _ _ _ _ _ _ _ (hpre c)
      refine ((h c).1.trans (Ref.out_staged m' c)).trans ?_
      rw [h0, h1, h2, h3, h4, h5, h6, h7, h8]
      show _ = shapeCast Cert.KernelIdeal.S1x2048x1024 (Pipe.outAt m c Cert.KernelIdeal.Gen.t0_0) Cert.KernelIdeal.Gen.shapeCasts_S2048x1024_S1x2048x1024
      rw [kernel_out]
      exact (Eqn.out_eq _ _ _ _ _ _ _ _ _ c p2 p3 p4 p5 p6 p7).symm
    · obtain ⟨h0, h1, h2, h3, h4, h5, h6, h7, h8⟩ := hargs c
      refine (h c).2.1.trans ?_
      rw [h0, h1]
      show _ = shapeCast Cert.KernelIdeal.S_ (Pipe.lossAt m c Cert.KernelIdeal.Gen.t0_0) Cert.KernelIdeal.Gen.shapeCasts_S1x1_S_
      rw [kernel_loss]
      exact (Eqn.loss_eq _ _).symm

end Cert.Proof

end
-- ==== Proof.lean ====
/-
  The claims, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Algebraic

@[expose] public section

theorem Cert.Proof.claim : Cert.Claim :=
  ⟨Cert.Kernel.Gen.facts, Cert.KernelIdeal.Gen.facts, Cert.ReferenceIdeal.Gen.facts, Cert.Proof.Pre.facts, Cert.Proof.frame_kernel,
    Cert.Proof.frame_ideal, fun m ρ _ => Cert.Proof.frame_ideal m ρ trivial, Cert.Proof.frame_reference,
    fun m ρ _ => Cert.Proof.frame_reference m ρ trivial, trivial, Cert.Proof.algebraic⟩

end
